-- ==== Defs.lean ====
def Pre_Kernel [hPre_in_range : Cert.Pre_in_range.Facts] (m : (ℓ : Loc Cert.Kernel.nD Cert.Kernel.τ Cert.Kernel.sig) → Buf (Elt Bits) ℓ) : Prop :=
  ∀ c : Dev Cert.Kernel.nD,
    (Cert.Pre_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] [hPre_in_range : Cert.Pre_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_in_range [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_in_range : Cert.Pre_in_range.Facts),
    quiescent_Kernel (hKernel := hKernel) (hPre_in_range := hPre_in_range)
    ∧ quiescent_KernelIdeal (hKernelIdeal := hKernelIdeal) (hPre_in_range := hPre_in_range)
    ∧ quiescent_ReferenceIdeal (hReferenceIdeal := hReferenceIdeal)
    ∧ quiescent_ReferenceIdeal_pre_in_range (hReferenceIdeal := hReferenceIdeal) (hPre_in_range := hPre_in_range)
    ∧ preserves_Kernel_KernelIdeal
    ∧ algebraic_KernelIdeal_ReferenceIdeal (hKernelIdeal := hKernelIdeal) (hReferenceIdeal := hReferenceIdeal) (hPre_in_range := hPre_in_range)
-- ==== Pre_in_range.lean ====
abbrev S256x4096 : Shape := ⟨2, ![256, 4096]⟩
abbrev S167773 : Shape := ⟨1, ![167773]⟩
abbrev S4096 : Shape := ⟨1, ![4096]⟩
abbrev S_ : Shape := ⟨0, ![]⟩

class Facts : Prop where
  bcast_S_S167773 : S_.BroadcastsInDim S167773 (![] : Fin 0 → Fin S167773.rank)
  reducesTo_S167773_S_d0 : S167773.ReducesTo [0] S_
  h_S_ : 0 < S_.numel

variable [Facts]

def fn {F : FTy → Type} [FloatOps F] (main_arg0 : FVec F S256x4096 .f32) (main_arg1 : FVec F S167773 .f32) (main_arg2 : FVec F S4096 .f32) (main_arg3 : IVec S167773 32) (main_arg4 : IVec S167773 32) : IVec S_ 1 :=
  let main_c : IVec S_ 32 := constantI S_ 32 0#32
  let main_v0 : IVec S167773 32 := broadcastInDim S167773 ![] bcast_S_S167773 main_c
  let main_v1 : IVec S167773 1 := cmpi .sge main_arg3 main_v0
  let main_c_0 : IVec S_ 1 := constantI S_ 1 1#1
  let main_v2 : IVec S_ 1 := (fun x v => Host.reduce IntOp.andi x v reducesTo_S167773_S_d0 h_S_) main_v1 main_c_0
  let main_c_1 : IVec S_ 32 := constantI S_ 32 4096#32
  let main_v3 : IVec S167773 32 := broadcastInDim S167773 ![] bcast_S_S167773 main_c_1
  let main_v4 : IVec S167773 1 := cmpi .slt main_arg3 main_v3
  let main_c_2 : IVec S_ 1 := constantI S_ 1 1#1
  let main_v5 : IVec S_ 1 := (fun x v => Host.reduce IntOp.andi x v reducesTo_S167773_S_d0 h_S_) main_v4 main_c_2
  let main_v6 : IVec S_ 1 := andi main_v2 main_v5
  let main_c_3 : IVec S_ 32 := constantI S_ 32 0#32
  let main_v7 : IVec S167773 32 := broadcastInDim S167773 ![] bcast_S_S167773 main_c_3
  let main_v8 : IVec S167773 1 := cmpi .sge main_arg4 main_v7
  let main_c_4 : IVec S_ 1 := constantI S_ 1 1#1
  let main_v9 : IVec S_ 1 := (fun x v => Host.reduce IntOp.andi x v reducesTo_S167773_S_d0 h_S_) main_v8 main_c_4
  let main_v10 : IVec S_ 1 := andi main_v6 main_v9
  let main_c_5 : IVec S_ 32 := constantI S_ 32 4096#32
  let main_v11 : IVec S167773 32 := broadcastInDim S167773 ![] bcast_S_S167773 main_c_5
  let main_v12 : IVec S167773 1 := cmpi .slt main_arg4 main_v11
  let main_c_6 : IVec S_ 1 := constantI S_ 1 1#1
  let main_v13 : IVec S_ 1 := (fun x v => Host.reduce IntOp.andi x v reducesTo_S167773_S_d0 h_S_) main_v12 main_c_6
  let main_v14 : IVec S_ 1 := andi main_v10 main_v13
  main_v14
-- ==== Kernel.lean ====
abbrev S256x4096 : Shape := ⟨2, ![256, 4096]⟩
abbrev S167773 : Shape := ⟨1, ![167773]⟩
abbrev S4096 : Shape := ⟨1, ![4096]⟩
abbrev S_ : Shape := ⟨0, ![]⟩
abbrev S163 : Shape := ⟨1, ![163]⟩
abbrev S167936 : Shape := ⟨1, ![167936]⟩
abbrev S32768 : Shape := ⟨1, ![32768]⟩
abbrev S1x4096 : Shape := ⟨2, ![1, 4096]⟩
abbrev S2048 : Shape := ⟨1, ![2048]⟩
abbrev S16 : Shape := ⟨1, ![16]⟩

abbrev nBuf : Table → Nat
  | .hbm => 15
  | .local .scVector .vmem => 5
  | _ => 0

abbrev bufTy : (tb : Table) → Fin (nBuf tb) → BufTy
  | .hbm, ⟨0, _⟩ => ⟨S256x4096, .f32⟩
  | .hbm, ⟨1, _⟩ => ⟨S167773, .f32⟩
  | .hbm, ⟨2, _⟩ => ⟨S4096, .f32⟩
  | .hbm, ⟨3, _⟩ => ⟨S167773, .i32⟩
  | .hbm, ⟨4, _⟩ => ⟨S167773, .i32⟩
  | .hbm, ⟨5, _⟩ => ⟨S_, .i32⟩
  | .hbm, ⟨6, _⟩ => ⟨S163, .i32⟩
  | .hbm, ⟨7, _⟩ => ⟨S167936, .i32⟩
  | .hbm, ⟨8, _⟩ => ⟨S_, .i32⟩
  | .hbm, ⟨9, _⟩ => ⟨S163, .i32⟩
  | .hbm, ⟨10, _⟩ => ⟨S167936, .i32⟩
  | .hbm, ⟨11, _⟩ => ⟨S_, .f32⟩
  | .hbm, ⟨12, _⟩ => ⟨S163, .f32⟩
  | .hbm, ⟨13, _⟩ => ⟨S167936, .f32⟩
  | .hbm, ⟨14, _⟩ => ⟨S256x4096, .f32⟩
  | .local .scVector .vmem, ⟨0, _⟩ => ⟨S32768, .f32⟩
  | .local .scVector .vmem, ⟨1, _⟩ => ⟨S32768, .f32⟩
  | .local .scVector .vmem, ⟨2, _⟩ => ⟨S4096, .i32⟩
  | .local .scVector .vmem, ⟨3, _⟩ => ⟨S4096, .i32⟩
  | .local .scVector .vmem, ⟨4, _⟩ => ⟨S4096, .f32⟩
  | _, _ => ⟨S256x4096, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 26 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | ⟨8, _⟩ => false
  | ⟨9, _⟩ => false
  | ⟨10, _⟩ => false
  | ⟨11, _⟩ => false
  | ⟨12, _⟩ => false
  | ⟨13, _⟩ => false
  | ⟨14, _⟩ => false
  | ⟨15, _⟩ => false
  | ⟨16, _⟩ => false
  | ⟨17, _⟩ => false
  | ⟨18, _⟩ => false
  | ⟨19, _⟩ => false
  | ⟨20, _⟩ => false
  | ⟨21, _⟩ => false
  | ⟨22, _⟩ => false
  | ⟨23, _⟩ => false
  | ⟨24, _⟩ => false
  | ⟨25, _⟩ => false
  | _ => false

abbrev sig : RefSig :=
  ofTables nBuf rfl bufTy 4 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_c_0 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_arg0_scv : Ref sig .scVector := ⟨.hbm, 0, rfl⟩
abbrev main_v5_scv : Ref sig .scVector := ⟨.hbm, 13, rfl⟩
abbrev main_arg2_scv : Ref sig .scVector := ⟨.hbm, 2, rfl⟩
abbrev main_v1_scv : Ref sig .scVector := ⟨.hbm, 7, rfl⟩
abbrev main_v3_scv : Ref sig .scVector := ⟨.hbm, 10, rfl⟩
abbrev main_v6_scv : Ref sig .scVector := ⟨.hbm, 14, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc0_scratch4 : Ref sig .scVector := ⟨.vmem, 4, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) (c0_i32 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32 : BitVec 32 := 8#32
  let v2 : BitVec 32 := Scalar.muli v1 c8_i32
  let v3 : BitVec 32 := Scalar.addi v2 c0_i32
  let c0_i32_70_r0 : BitVec 32 := 0#32
  ![v3.toNat, 0]
@[reducible] def k0_t1_loop : Scf.Loop 32 :=
  let c0_i32_25 : BitVec 32 := 0#32
  let c40_i32 : BitVec 32 := 40#32
  let v35 : BitVec 32 := Scalar.addi c0_i32_25 c40_i32
  let c1_i32_26 : BitVec 32 := 1#32
  ⟨c0_i32_25, v35, c1_i32_26⟩
@[reducible] def k0_t2_loop : Scf.Loop 32 :=
  let c0_i32_82 : BitVec 32 := 0#32
  let c128_i32_83 : BitVec 32 := 128#32
  let v82 : BitVec 32 := Scalar.addi c0_i32_82 c128_i32_83
  let c1_i32_84 : BitVec 32 := 1#32
  ⟨c0_i32_82, v82, c1_i32_84⟩
def k0_off2 (k0_t2 : Fin k0_t2_loop.trips) : Fin 1 → Nat :=
  let c0_i32_123 : BitVec 32 := 0#32
  let c0_i32_82 : BitVec 32 := 0#32
  let c1_i32_84 : BitVec 32 := 1#32
  let arg16 : BitVec 32 := Scf.iv c0_i32_82 c1_i32_84 k0_t2
  let c16_i32 : BitVec 32 := 16#32
  let v128 : BitVec 32 := Scalar.muli arg16 c16_i32
  let v129 : BitVec 32 := Scalar.addi c0_i32_123 v128
  let v130 : Index := Scalar.indexCast v129
  ![v130.toNat]

def k0_chk1 (v141 : IVec S16 32) : Prop :=
  (∀ a x, ((![v141] : Fin 1 → IVec S16 32) a x).toNat < S32768.size a)
theorem k0_idx1_inb : ∀ (v141 : IVec S16 32) (k0_hw1 : k0_chk1 v141), ∀ a x, ((![v141] : Fin 1 → IVec S16 32) a x).toNat < S32768.size a := fun v141 k0_hw1 => k0_hw1

def k0_chk2 (v144 : IVec S16 32) : Prop :=
  (∀ a x, ((![v144] : Fin 1 → IVec S16 32) a x).toNat < S32768.size a)
theorem k0_idx2_inb : ∀ (v144 : IVec S16 32) (k0_hw2 : k0_chk2 v144), ∀ a x, ((![v144] : Fin 1 → IVec S16 32) a x).toNat < S32768.size a := fun v144 k0_hw2 => k0_hw2

def k0_chk3 (v147 : IVec S16 32) : Prop :=
  (∀ a x, ((![v147] : Fin 1 → IVec S16 32) a x).toNat < S32768.size a)
theorem k0_idx3_inb : ∀ (v147 : IVec S16 32) (k0_hw3 : k0_chk3 v147), ∀ a x, ((![v147] : Fin 1 → IVec S16 32) a x).toNat < S32768.size a := fun v147 k0_hw3 => k0_hw3

def k0_chk4 (v150 : IVec S16 32) : Prop :=
  (∀ a x, ((![v150] : Fin 1 → IVec S16 32) a x).toNat < S32768.size a)
theorem k0_idx4_inb : ∀ (v150 : IVec S16 32) (k0_hw4 : k0_chk4 v150), ∀ a x, ((![v150] : Fin 1 → IVec S16 32) a x).toNat < S32768.size a := fun v150 k0_hw4 => k0_hw4

def k0_chk5 (v153 : IVec S16 32) : Prop :=
  (∀ a x, ((![v153] : Fin 1 → IVec S16 32) a x).toNat < S32768.size a)
theorem k0_idx5_inb : ∀ (v153 : IVec S16 32) (k0_hw5 : k0_chk5 v153), ∀ a x, ((![v153] : Fin 1 → IVec S16 32) a x).toNat < S32768.size a := fun v153 k0_hw5 => k0_hw5

def k0_chk6 (v156 : IVec S16 32) : Prop :=
  (∀ a x, ((![v156] : Fin 1 → IVec S16 32) a x).toNat < S32768.size a)
theorem k0_idx6_inb : ∀ (v156 : IVec S16 32) (k0_hw6 : k0_chk6 v156), ∀ a x, ((![v156] : Fin 1 → IVec S16 32) a x).toNat < S32768.size a := fun v156 k0_hw6 => k0_hw6

def k0_chk7 (v159 : IVec S16 32) : Prop :=
  (∀ a x, ((![v159] : Fin 1 → IVec S16 32) a x).toNat < S32768.size a)
theorem k0_idx7_inb : ∀ (v159 : IVec S16 32) (k0_hw7 : k0_chk7 v159), ∀ a x, ((![v159] : Fin 1 → IVec S16 32) a x).toNat < S32768.size a := fun v159 k0_hw7 => k0_hw7

def k0_chk8 (v162 : IVec S16 32) : Prop :=
  (∀ a x, ((![v162] : Fin 1 → IVec S16 32) a x).toNat < S32768.size a)
theorem k0_idx8_inb : ∀ (v162 : IVec S16 32) (k0_hw8 : k0_chk8 v162), ∀ a x, ((![v162] : Fin 1 → IVec S16 32) a x).toNat < S32768.size a := fun v162 k0_hw8 => k0_hw8

def k0_chk9 (v165 : IVec S16 32) : Prop :=
  (∀ a x, ((![v165] : Fin 1 → IVec S16 32) a x).toNat < S32768.size a)
theorem k0_idx9_inb : ∀ (v165 : IVec S16 32) (k0_hw9 : k0_chk9 v165), ∀ a x, ((![v165] : Fin 1 → IVec S16 32) a x).toNat < S32768.size a := fun v165 k0_hw9 => k0_hw9

def k0_chk10 (v168 : IVec S16 32) : Prop :=
  (∀ a x, ((![v168] : Fin 1 → IVec S16 32) a x).toNat < S32768.size a)
theorem k0_idx10_inb : ∀ (v168 : IVec S16 32) (k0_hw10 : k0_chk10 v168), ∀ a x, ((![v168] : Fin 1 → IVec S16 32) a x).toNat < S32768.size a := fun v168 k0_hw10 => k0_hw10

def k0_chk11 (v171 : IVec S16 32) : Prop :=
  (∀ a x, ((![v171] : Fin 1 → IVec S16 32) a x).toNat < S32768.size a)
theorem k0_idx11_inb : ∀ (v171 : IVec S16 32) (k0_hw11 : k0_chk11 v171), ∀ a x, ((![v171] : Fin 1 → IVec S16 32) a x).toNat < S32768.size a := fun v171 k0_hw11 => k0_hw11

def k0_chk12 (v174 : IVec S16 32) : Prop :=
  (∀ a x, ((![v174] : Fin 1 → IVec S16 32) a x).toNat < S32768.size a)
theorem k0_idx12_inb : ∀ (v174 : IVec S16 32) (k0_hw12 : k0_chk12 v174), ∀ a x, ((![v174] : Fin 1 → IVec S16 32) a x).toNat < S32768.size a := fun v174 k0_hw12 => k0_hw12

def k0_chk13 (v177 : IVec S16 32) : Prop :=
  (∀ a x, ((![v177] : Fin 1 → IVec S16 32) a x).toNat < S32768.size a)
theorem k0_idx13_inb : ∀ (v177 : IVec S16 32) (k0_hw13 : k0_chk13 v177), ∀ a x, ((![v177] : Fin 1 → IVec S16 32) a x).toNat < S32768.size a := fun v177 k0_hw13 => k0_hw13

def k0_chk14 (v180 : IVec S16 32) : Prop :=
  (∀ a x, ((![v180] : Fin 1 → IVec S16 32) a x).toNat < S32768.size a)
theorem k0_idx14_inb : ∀ (v180 : IVec S16 32) (k0_hw14 : k0_chk14 v180), ∀ a x, ((![v180] : Fin 1 → IVec S16 32) a x).toNat < S32768.size a := fun v180 k0_hw14 => k0_hw14

def k0_chk15 (v183 : IVec S16 32) : Prop :=
  (∀ a x, ((![v183] : Fin 1 → IVec S16 32) a x).toNat < S32768.size a)
theorem k0_idx15_inb : ∀ (v183 : IVec S16 32) (k0_hw15 : k0_chk15 v183), ∀ a x, ((![v183] : Fin 1 → IVec S16 32) a x).toNat < S32768.size a := fun v183 k0_hw15 => k0_hw15

def k0_chk16 (v186 : IVec S16 32) : Prop :=
  (∀ a x, ((![v186] : Fin 1 → IVec S16 32) a x).toNat < S32768.size a)
theorem k0_idx16_inb : ∀ (v186 : IVec S16 32) (k0_hw16 : k0_chk16 v186), ∀ a x, ((![v186] : Fin 1 → IVec S16 32) a x).toNat < S32768.size a := fun v186 k0_hw16 => k0_hw16
def k0_off3 (k0_t1 : Fin k0_t1_loop.trips) (c0_i32_88 : BitVec 32) : Fin 1 → Nat :=
  let c2_i32_86 : BitVec 32 := 2#32
  let c0_i32_25 : BitVec 32 := 0#32
  let c1_i32_26 : BitVec 32 := 1#32
  let arg15 : BitVec 32 := Scf.iv c0_i32_25 c1_i32_26 k0_t1
  let v83 : BitVec 32 := Scalar.muli c2_i32_86 arg15
  let c2_i32_87 : BitVec 32 := 2#32
  let v84 : BitVec 32 := Scalar.addi v83 c2_i32_87
  let v85 : BitVec 32 := Scalar.addi v84 c0_i32_88
  let c2048_i32_89 : BitVec 32 := 2048#32
  let v86 : BitVec 32 := Scalar.muli v85 c2048_i32_89
  ![v86.toNat]
@[reducible] def k0_t3_loop : Scf.Loop 32 :=
  let c0_i32_109 : BitVec 32 := 0#32
  let c128_i32_110 : BitVec 32 := 128#32
  let v111 : BitVec 32 := Scalar.addi c0_i32_109 c128_i32_110
  let c1_i32_111 : BitVec 32 := 1#32
  ⟨c0_i32_109, v111, c1_i32_111⟩
def k0_off4 (k0_t3 : Fin k0_t3_loop.trips) : Fin 1 → Nat :=
  let c2048_i32_123 : BitVec 32 := 2048#32
  let c0_i32_109 : BitVec 32 := 0#32
  let c1_i32_111 : BitVec 32 := 1#32
  let arg16 : BitVec 32 := Scf.iv c0_i32_109 c1_i32_111 k0_t3
  let c16_i32 : BitVec 32 := 16#32
  let v128 : BitVec 32 := Scalar.muli arg16 c16_i32
  let v129 : BitVec 32 := Scalar.addi c2048_i32_123 v128
  let v130 : Index := Scalar.indexCast v129
  ![v130.toNat]

def k0_chk17 (v141 : IVec S16 32) : Prop :=
  (∀ a x, ((![v141] : Fin 1 → IVec S16 32) a x).toNat < S32768.size a)
theorem k0_idx17_inb : ∀ (v141 : IVec S16 32) (k0_hw17 : k0_chk17 v141), ∀ a x, ((![v141] : Fin 1 → IVec S16 32) a x).toNat < S32768.size a := fun v141 k0_hw17 => k0_hw17

def k0_chk18 (v144 : IVec S16 32) : Prop :=
  (∀ a x, ((![v144] : Fin 1 → IVec S16 32) a x).toNat < S32768.size a)
theorem k0_idx18_inb : ∀ (v144 : IVec S16 32) (k0_hw18 : k0_chk18 v144), ∀ a x, ((![v144] : Fin 1 → IVec S16 32) a x).toNat < S32768.size a := fun v144 k0_hw18 => k0_hw18

def k0_chk19 (v147 : IVec S16 32) : Prop :=
  (∀ a x, ((![v147] : Fin 1 → IVec S16 32) a x).toNat < S32768.size a)
theorem k0_idx19_inb : ∀ (v147 : IVec S16 32) (k0_hw19 : k0_chk19 v147), ∀ a x, ((![v147] : Fin 1 → IVec S16 32) a x).toNat < S32768.size a := fun v147 k0_hw19 => k0_hw19

def k0_chk20 (v150 : IVec S16 32) : Prop :=
  (∀ a x, ((![v150] : Fin 1 → IVec S16 32) a x).toNat < S32768.size a)
theorem k0_idx20_inb : ∀ (v150 : IVec S16 32) (k0_hw20 : k0_chk20 v150), ∀ a x, ((![v150] : Fin 1 → IVec S16 32) a x).toNat < S32768.size a := fun v150 k0_hw20 => k0_hw20

def k0_chk21 (v153 : IVec S16 32) : Prop :=
  (∀ a x, ((![v153] : Fin 1 → IVec S16 32) a x).toNat < S32768.size a)
theorem k0_idx21_inb : ∀ (v153 : IVec S16 32) (k0_hw21 : k0_chk21 v153), ∀ a x, ((![v153] : Fin 1 → IVec S16 32) a x).toNat < S32768.size a := fun v153 k0_hw21 => k0_hw21

def k0_chk22 (v156 : IVec S16 32) : Prop :=
  (∀ a x, ((![v156] : Fin 1 → IVec S16 32) a x).toNat < S32768.size a)
theorem k0_idx22_inb : ∀ (v156 : IVec S16 32) (k0_hw22 : k0_chk22 v156), ∀ a x, ((![v156] : Fin 1 → IVec S16 32) a x).toNat < S32768.size a := fun v156 k0_hw22 => k0_hw22

def k0_chk23 (v159 : IVec S16 32) : Prop :=
  (∀ a x, ((![v159] : Fin 1 → IVec S16 32) a x).toNat < S32768.size a)
theorem k0_idx23_inb : ∀ (v159 : IVec S16 32) (k0_hw23 : k0_chk23 v159), ∀ a x, ((![v159] : Fin 1 → IVec S16 32) a x).toNat < S32768.size a := fun v159 k0_hw23 => k0_hw23

def k0_chk24 (v162 : IVec S16 32) : Prop :=
  (∀ a x, ((![v162] : Fin 1 → IVec S16 32) a x).toNat < S32768.size a)
theorem k0_idx24_inb : ∀ (v162 : IVec S16 32) (k0_hw24 : k0_chk24 v162), ∀ a x, ((![v162] : Fin 1 → IVec S16 32) a x).toNat < S32768.size a := fun v162 k0_hw24 => k0_hw24

def k0_chk25 (v165 : IVec S16 32) : Prop :=
  (∀ a x, ((![v165] : Fin 1 → IVec S16 32) a x).toNat < S32768.size a)
theorem k0_idx25_inb : ∀ (v165 : IVec S16 32) (k0_hw25 : k0_chk25 v165), ∀ a x, ((![v165] : Fin 1 → IVec S16 32) a x).toNat < S32768.size a := fun v165 k0_hw25 => k0_hw25

def k0_chk26 (v168 : IVec S16 32) : Prop :=
  (∀ a x, ((![v168] : Fin 1 → IVec S16 32) a x).toNat < S32768.size a)
theorem k0_idx26_inb : ∀ (v168 : IVec S16 32) (k0_hw26 : k0_chk26 v168), ∀ a x, ((![v168] : Fin 1 → IVec S16 32) a x).toNat < S32768.size a := fun v168 k0_hw26 => k0_hw26

def k0_chk27 (v171 : IVec S16 32) : Prop :=
  (∀ a x, ((![v171] : Fin 1 → IVec S16 32) a x).toNat < S32768.size a)
theorem k0_idx27_inb : ∀ (v171 : IVec S16 32) (k0_hw27 : k0_chk27 v171), ∀ a x, ((![v171] : Fin 1 → IVec S16 32) a x).toNat < S32768.size a := fun v171 k0_hw27 => k0_hw27

def k0_chk28 (v174 : IVec S16 32) : Prop :=
  (∀ a x, ((![v174] : Fin 1 → IVec S16 32) a x).toNat < S32768.size a)
theorem k0_idx28_inb : ∀ (v174 : IVec S16 32) (k0_hw28 : k0_chk28 v174), ∀ a x, ((![v174] : Fin 1 → IVec S16 32) a x).toNat < S32768.size a := fun v174 k0_hw28 => k0_hw28

def k0_chk29 (v177 : IVec S16 32) : Prop :=
  (∀ a x, ((![v177] : Fin 1 → IVec S16 32) a x).toNat < S32768.size a)
theorem k0_idx29_inb : ∀ (v177 : IVec S16 32) (k0_hw29 : k0_chk29 v177), ∀ a x, ((![v177] : Fin 1 → IVec S16 32) a x).toNat < S32768.size a := fun v177 k0_hw29 => k0_hw29

def k0_chk30 (v180 : IVec S16 32) : Prop :=
  (∀ a x, ((![v180] : Fin 1 → IVec S16 32) a x).toNat < S32768.size a)
theorem k0_idx30_inb : ∀ (v180 : IVec S16 32) (k0_hw30 : k0_chk30 v180), ∀ a x, ((![v180] : Fin 1 → IVec S16 32) a x).toNat < S32768.size a := fun v180 k0_hw30 => k0_hw30

def k0_chk31 (v183 : IVec S16 32) : Prop :=
  (∀ a x, ((![v183] : Fin 1 → IVec S16 32) a x).toNat < S32768.size a)
theorem k0_idx31_inb : ∀ (v183 : IVec S16 32) (k0_hw31 : k0_chk31 v183), ∀ a x, ((![v183] : Fin 1 → IVec S16 32) a x).toNat < S32768.size a := fun v183 k0_hw31 => k0_hw31

def k0_chk32 (v186 : IVec S16 32) : Prop :=
  (∀ a x, ((![v186] : Fin 1 → IVec S16 32) a x).toNat < S32768.size a)
theorem k0_idx32_inb : ∀ (v186 : IVec S16 32) (k0_hw32 : k0_chk32 v186), ∀ a x, ((![v186] : Fin 1 → IVec S16 32) a x).toNat < S32768.size a := fun v186 k0_hw32 => k0_hw32
@[reducible] def k0_t4_loop : Scf.Loop 32 :=
  let c0_i32_41 : BitVec 32 := 0#32
  let c128_i32 : BitVec 32 := 128#32
  let v48 : BitVec 32 := Scalar.addi c0_i32_41 c128_i32
  let c1_i32_42 : BitVec 32 := 1#32
  ⟨c0_i32_41, v48, c1_i32_42⟩
def k0_off5 (k0_t4 : Fin k0_t4_loop.trips) : Fin 1 → Nat :=
  let c0_i32_69 : BitVec 32 := 0#32
  let c0_i32_41 : BitVec 32 := 0#32
  let c1_i32_42 : BitVec 32 := 1#32
  let arg15 : BitVec 32 := Scf.iv c0_i32_41 c1_i32_42 k0_t4
  let c16_i32 : BitVec 32 := 16#32
  let v70 : BitVec 32 := Scalar.muli arg15 c16_i32
  let v71 : BitVec 32 := Scalar.addi c0_i32_69 v70
  let v72 : Index := Scalar.indexCast v71
  ![v72.toNat]

def k0_chk33 (v83 : IVec S16 32) : Prop :=
  (∀ a x, ((![v83] : Fin 1 → IVec S16 32) a x).toNat < S32768.size a)
theorem k0_idx33_inb : ∀ (v83 : IVec S16 32) (k0_hw33 : k0_chk33 v83), ∀ a x, ((![v83] : Fin 1 → IVec S16 32) a x).toNat < S32768.size a := fun v83 k0_hw33 => k0_hw33

def k0_chk34 (v86 : IVec S16 32) : Prop :=
  (∀ a x, ((![v86] : Fin 1 → IVec S16 32) a x).toNat < S32768.size a)
theorem k0_idx34_inb : ∀ (v86 : IVec S16 32) (k0_hw34 : k0_chk34 v86), ∀ a x, ((![v86] : Fin 1 → IVec S16 32) a x).toNat < S32768.size a := fun v86 k0_hw34 => k0_hw34

def k0_chk35 (v89 : IVec S16 32) : Prop :=
  (∀ a x, ((![v89] : Fin 1 → IVec S16 32) a x).toNat < S32768.size a)
theorem k0_idx35_inb : ∀ (v89 : IVec S16 32) (k0_hw35 : k0_chk35 v89), ∀ a x, ((![v89] : Fin 1 → IVec S16 32) a x).toNat < S32768.size a := fun v89 k0_hw35 => k0_hw35

def k0_chk36 (v92 : IVec S16 32) : Prop :=
  (∀ a x, ((![v92] : Fin 1 → IVec S16 32) a x).toNat < S32768.size a)
theorem k0_idx36_inb : ∀ (v92 : IVec S16 32) (k0_hw36 : k0_chk36 v92), ∀ a x, ((![v92] : Fin 1 → IVec S16 32) a x).toNat < S32768.size a := fun v92 k0_hw36 => k0_hw36

def k0_chk37 (v95 : IVec S16 32) : Prop :=
  (∀ a x, ((![v95] : Fin 1 → IVec S16 32) a x).toNat < S32768.size a)
theorem k0_idx37_inb : ∀ (v95 : IVec S16 32) (k0_hw37 : k0_chk37 v95), ∀ a x, ((![v95] : Fin 1 → IVec S16 32) a x).toNat < S32768.size a := fun v95 k0_hw37 => k0_hw37

def k0_chk38 (v98 : IVec S16 32) : Prop :=
  (∀ a x, ((![v98] : Fin 1 → IVec S16 32) a x).toNat < S32768.size a)
theorem k0_idx38_inb : ∀ (v98 : IVec S16 32) (k0_hw38 : k0_chk38 v98), ∀ a x, ((![v98] : Fin 1 → IVec S16 32) a x).toNat < S32768.size a := fun v98 k0_hw38 => k0_hw38

def k0_chk39 (v101 : IVec S16 32) : Prop :=
  (∀ a x, ((![v101] : Fin 1 → IVec S16 32) a x).toNat < S32768.size a)
theorem k0_idx39_inb : ∀ (v101 : IVec S16 32) (k0_hw39 : k0_chk39 v101), ∀ a x, ((![v101] : Fin 1 → IVec S16 32) a x).toNat < S32768.size a := fun v101 k0_hw39 => k0_hw39

def k0_chk40 (v104 : IVec S16 32) : Prop :=
  (∀ a x, ((![v104] : Fin 1 → IVec S16 32) a x).toNat < S32768.size a)
theorem k0_idx40_inb : ∀ (v104 : IVec S16 32) (k0_hw40 : k0_chk40 v104), ∀ a x, ((![v104] : Fin 1 → IVec S16 32) a x).toNat < S32768.size a := fun v104 k0_hw40 => k0_hw40

def k0_chk41 (v107 : IVec S16 32) : Prop :=
  (∀ a x, ((![v107] : Fin 1 → IVec S16 32) a x).toNat < S32768.size a)
theorem k0_idx41_inb : ∀ (v107 : IVec S16 32) (k0_hw41 : k0_chk41 v107), ∀ a x, ((![v107] : Fin 1 → IVec S16 32) a x).toNat < S32768.size a := fun v107 k0_hw41 => k0_hw41

def k0_chk42 (v110 : IVec S16 32) : Prop :=
  (∀ a x, ((![v110] : Fin 1 → IVec S16 32) a x).toNat < S32768.size a)
theorem k0_idx42_inb : ∀ (v110 : IVec S16 32) (k0_hw42 : k0_chk42 v110), ∀ a x, ((![v110] : Fin 1 → IVec S16 32) a x).toNat < S32768.size a := fun v110 k0_hw42 => k0_hw42

def k0_chk43 (v113 : IVec S16 32) : Prop :=
  (∀ a x, ((![v113] : Fin 1 → IVec S16 32) a x).toNat < S32768.size a)
theorem k0_idx43_inb : ∀ (v113 : IVec S16 32) (k0_hw43 : k0_chk43 v113), ∀ a x, ((![v113] : Fin 1 → IVec S16 32) a x).toNat < S32768.size a := fun v113 k0_hw43 => k0_hw43

def k0_chk44 (v116 : IVec S16 32) : Prop :=
  (∀ a x, ((![v116] : Fin 1 → IVec S16 32) a x).toNat < S32768.size a)
theorem k0_idx44_inb : ∀ (v116 : IVec S16 32) (k0_hw44 : k0_chk44 v116), ∀ a x, ((![v116] : Fin 1 → IVec S16 32) a x).toNat < S32768.size a := fun v116 k0_hw44 => k0_hw44

def k0_chk45 (v119 : IVec S16 32) : Prop :=
  (∀ a x, ((![v119] : Fin 1 → IVec S16 32) a x).toNat < S32768.size a)
theorem k0_idx45_inb : ∀ (v119 : IVec S16 32) (k0_hw45 : k0_chk45 v119), ∀ a x, ((![v119] : Fin 1 → IVec S16 32) a x).toNat < S32768.size a := fun v119 k0_hw45 => k0_hw45

def k0_chk46 (v122 : IVec S16 32) : Prop :=
  (∀ a x, ((![v122] : Fin 1 → IVec S16 32) a x).toNat < S32768.size a)
theorem k0_idx46_inb : ∀ (v122 : IVec S16 32) (k0_hw46 : k0_chk46 v122), ∀ a x, ((![v122] : Fin 1 → IVec S16 32) a x).toNat < S32768.size a := fun v122 k0_hw46 => k0_hw46

def k0_chk47 (v125 : IVec S16 32) : Prop :=
  (∀ a x, ((![v125] : Fin 1 → IVec S16 32) a x).toNat < S32768.size a)
theorem k0_idx47_inb : ∀ (v125 : IVec S16 32) (k0_hw47 : k0_chk47 v125), ∀ a x, ((![v125] : Fin 1 → IVec S16 32) a x).toNat < S32768.size a := fun v125 k0_hw47 => k0_hw47

def k0_chk48 (v128 : IVec S16 32) : Prop :=
  (∀ a x, ((![v128] : Fin 1 → IVec S16 32) a x).toNat < S32768.size a)
theorem k0_idx48_inb : ∀ (v128 : IVec S16 32) (k0_hw48 : k0_chk48 v128), ∀ a x, ((![v128] : Fin 1 → IVec S16 32) a x).toNat < S32768.size a := fun v128 k0_hw48 => k0_hw48
@[reducible] def k0_t5_loop : Scf.Loop 32 :=
  let c0_i32_57 : BitVec 32 := 0#32
  let c128_i32_58 : BitVec 32 := 128#32
  let v61 : BitVec 32 := Scalar.addi c0_i32_57 c128_i32_58
  let c1_i32_59 : BitVec 32 := 1#32
  ⟨c0_i32_57, v61, c1_i32_59⟩
def k0_off6 (k0_t5 : Fin k0_t5_loop.trips) : Fin 1 → Nat :=
  let c2048_i32_69 : BitVec 32 := 2048#32
  let c0_i32_57 : BitVec 32 := 0#32
  let c1_i32_59 : BitVec 32 := 1#32
  let arg15 : BitVec 32 := Scf.iv c0_i32_57 c1_i32_59 k0_t5
  let c16_i32 : BitVec 32 := 16#32
  let v70 : BitVec 32 := Scalar.muli arg15 c16_i32
  let v71 : BitVec 32 := Scalar.addi c2048_i32_69 v70
  let v72 : Index := Scalar.indexCast v71
  ![v72.toNat]

def k0_chk49 (v83 : IVec S16 32) : Prop :=
  (∀ a x, ((![v83] : Fin 1 → IVec S16 32) a x).toNat < S32768.size a)
theorem k0_idx49_inb : ∀ (v83 : IVec S16 32) (k0_hw49 : k0_chk49 v83), ∀ a x, ((![v83] : Fin 1 → IVec S16 32) a x).toNat < S32768.size a := fun v83 k0_hw49 => k0_hw49

def k0_chk50 (v86 : IVec S16 32) : Prop :=
  (∀ a x, ((![v86] : Fin 1 → IVec S16 32) a x).toNat < S32768.size a)
theorem k0_idx50_inb : ∀ (v86 : IVec S16 32) (k0_hw50 : k0_chk50 v86), ∀ a x, ((![v86] : Fin 1 → IVec S16 32) a x).toNat < S32768.size a := fun v86 k0_hw50 => k0_hw50

def k0_chk51 (v89 : IVec S16 32) : Prop :=
  (∀ a x, ((![v89] : Fin 1 → IVec S16 32) a x).toNat < S32768.size a)
theorem k0_idx51_inb : ∀ (v89 : IVec S16 32) (k0_hw51 : k0_chk51 v89), ∀ a x, ((![v89] : Fin 1 → IVec S16 32) a x).toNat < S32768.size a := fun v89 k0_hw51 => k0_hw51

def k0_chk52 (v92 : IVec S16 32) : Prop :=
  (∀ a x, ((![v92] : Fin 1 → IVec S16 32) a x).toNat < S32768.size a)
theorem k0_idx52_inb : ∀ (v92 : IVec S16 32) (k0_hw52 : k0_chk52 v92), ∀ a x, ((![v92] : Fin 1 → IVec S16 32) a x).toNat < S32768.size a := fun v92 k0_hw52 => k0_hw52

def k0_chk53 (v95 : IVec S16 32) : Prop :=
  (∀ a x, ((![v95] : Fin 1 → IVec S16 32) a x).toNat < S32768.size a)
theorem k0_idx53_inb : ∀ (v95 : IVec S16 32) (k0_hw53 : k0_chk53 v95), ∀ a x, ((![v95] : Fin 1 → IVec S16 32) a x).toNat < S32768.size a := fun v95 k0_hw53 => k0_hw53

def k0_chk54 (v98 : IVec S16 32) : Prop :=
  (∀ a x, ((![v98] : Fin 1 → IVec S16 32) a x).toNat < S32768.size a)
theorem k0_idx54_inb : ∀ (v98 : IVec S16 32) (k0_hw54 : k0_chk54 v98), ∀ a x, ((![v98] : Fin 1 → IVec S16 32) a x).toNat < S32768.size a := fun v98 k0_hw54 => k0_hw54

def k0_chk55 (v101 : IVec S16 32) : Prop :=
  (∀ a x, ((![v101] : Fin 1 → IVec S16 32) a x).toNat < S32768.size a)
theorem k0_idx55_inb : ∀ (v101 : IVec S16 32) (k0_hw55 : k0_chk55 v101), ∀ a x, ((![v101] : Fin 1 → IVec S16 32) a x).toNat < S32768.size a := fun v101 k0_hw55 => k0_hw55

def k0_chk56 (v104 : IVec S16 32) : Prop :=
  (∀ a x, ((![v104] : Fin 1 → IVec S16 32) a x).toNat < S32768.size a)
theorem k0_idx56_inb : ∀ (v104 : IVec S16 32) (k0_hw56 : k0_chk56 v104), ∀ a x, ((![v104] : Fin 1 → IVec S16 32) a x).toNat < S32768.size a := fun v104 k0_hw56 => k0_hw56

def k0_chk57 (v107 : IVec S16 32) : Prop :=
  (∀ a x, ((![v107] : Fin 1 → IVec S16 32) a x).toNat < S32768.size a)
theorem k0_idx57_inb : ∀ (v107 : IVec S16 32) (k0_hw57 : k0_chk57 v107), ∀ a x, ((![v107] : Fin 1 → IVec S16 32) a x).toNat < S32768.size a := fun v107 k0_hw57 => k0_hw57

def k0_chk58 (v110 : IVec S16 32) : Prop :=
  (∀ a x, ((![v110] : Fin 1 → IVec S16 32) a x).toNat < S32768.size a)
theorem k0_idx58_inb : ∀ (v110 : IVec S16 32) (k0_hw58 : k0_chk58 v110), ∀ a x, ((![v110] : Fin 1 → IVec S16 32) a x).toNat < S32768.size a := fun v110 k0_hw58 => k0_hw58

def k0_chk59 (v113 : IVec S16 32) : Prop :=
  (∀ a x, ((![v113] : Fin 1 → IVec S16 32) a x).toNat < S32768.size a)
theorem k0_idx59_inb : ∀ (v113 : IVec S16 32) (k0_hw59 : k0_chk59 v113), ∀ a x, ((![v113] : Fin 1 → IVec S16 32) a x).toNat < S32768.size a := fun v113 k0_hw59 => k0_hw59

def k0_chk60 (v116 : IVec S16 32) : Prop :=
  (∀ a x, ((![v116] : Fin 1 → IVec S16 32) a x).toNat < S32768.size a)
theorem k0_idx60_inb : ∀ (v116 : IVec S16 32) (k0_hw60 : k0_chk60 v116), ∀ a x, ((![v116] : Fin 1 → IVec S16 32) a x).toNat < S32768.size a := fun v116 k0_hw60 => k0_hw60

def k0_chk61 (v119 : IVec S16 32) : Prop :=
  (∀ a x, ((![v119] : Fin 1 → IVec S16 32) a x).toNat < S32768.size a)
theorem k0_idx61_inb : ∀ (v119 : IVec S16 32) (k0_hw61 : k0_chk61 v119), ∀ a x, ((![v119] : Fin 1 → IVec S16 32) a x).toNat < S32768.size a := fun v119 k0_hw61 => k0_hw61

def k0_chk62 (v122 : IVec S16 32) : Prop :=
  (∀ a x, ((![v122] : Fin 1 → IVec S16 32) a x).toNat < S32768.size a)
theorem k0_idx62_inb : ∀ (v122 : IVec S16 32) (k0_hw62 : k0_chk62 v122), ∀ a x, ((![v122] : Fin 1 → IVec S16 32) a x).toNat < S32768.size a := fun v122 k0_hw62 => k0_hw62

def k0_chk63 (v125 : IVec S16 32) : Prop :=
  (∀ a x, ((![v125] : Fin 1 → IVec S16 32) a x).toNat < S32768.size a)
theorem k0_idx63_inb : ∀ (v125 : IVec S16 32) (k0_hw63 : k0_chk63 v125), ∀ a x, ((![v125] : Fin 1 → IVec S16 32) a x).toNat < S32768.size a := fun v125 k0_hw63 => k0_hw63

def k0_chk64 (v128 : IVec S16 32) : Prop :=
  (∀ a x, ((![v128] : Fin 1 → IVec S16 32) a x).toNat < S32768.size a)
theorem k0_idx64_inb : ∀ (v128 : IVec S16 32) (k0_hw64 : k0_chk64 v128), ∀ a x, ((![v128] : Fin 1 → IVec S16 32) a x).toNat < S32768.size a := fun v128 k0_hw64 => k0_hw64
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S256x4096 : Shape := ⟨2, ![256, 4096]⟩
abbrev S167773 : Shape := ⟨1, ![167773]⟩
abbrev S4096 : Shape := ⟨1, ![4096]⟩
abbrev S_ : Shape := ⟨0, ![]⟩
abbrev S167773x1 : Shape := ⟨2, ![167773, 1]⟩
abbrev S256x167773 : Shape := ⟨2, ![256, 167773]⟩
abbrev S1x167773 : Shape := ⟨2, ![1, 167773]⟩
abbrev S167773x256 : Shape := ⟨2, ![167773, 256]⟩
abbrev S4096x256 : Shape := ⟨2, ![4096, 256]⟩
abbrev S4096x1 : Shape := ⟨2, ![4096, 1]⟩

abbrev nBuf : Space → Nat
  | .hbm => 26
  | .vmem => 0
  | .smem => 0
  | _ => 0

abbrev bufTy : (tb : Table) → Fin (tcTables nBuf tb) → BufTy
  | .hbm, ⟨0, _⟩ => ⟨S256x4096, .f32⟩
  | .hbm, ⟨1, _⟩ => ⟨S167773, .f32⟩
  | .hbm, ⟨2, _⟩ => ⟨S4096, .f32⟩
  | .hbm, ⟨3, _⟩ => ⟨S167773, .i32⟩
  | .hbm, ⟨4, _⟩ => ⟨S167773, .i32⟩
  | .hbm, ⟨5, _⟩ => ⟨S_, .i32⟩
  | .hbm, ⟨6, _⟩ => ⟨S167773, .i32⟩
  | .hbm, ⟨7, _⟩ => ⟨S167773, .i1⟩
  | .hbm, ⟨8, _⟩ => ⟨S_, .i32⟩
  | .hbm, ⟨9, _⟩ => ⟨S167773, .i32⟩
  | .hbm, ⟨10, _⟩ => ⟨S167773, .i32⟩
  | .hbm, ⟨11, _⟩ => ⟨S167773, .i32⟩
  | .hbm, ⟨12, _⟩ => ⟨S167773x1, .i32⟩
  | .hbm, ⟨13, _⟩ => ⟨S256x167773, .f32⟩
  | .hbm, ⟨14, _⟩ => ⟨S1x167773, .f32⟩
  | .hbm, ⟨15, _⟩ => ⟨S256x167773, .f32⟩
  | .hbm, ⟨16, _⟩ => ⟨S256x167773, .f32⟩
  | .hbm, ⟨17, _⟩ => ⟨S167773x256, .f32⟩
  | .hbm, ⟨18, _⟩ => ⟨S_, .f32⟩
  | .hbm, ⟨19, _⟩ => ⟨S4096x256, .f32⟩
  | .hbm, ⟨20, _⟩ => ⟨S167773x1, .i32⟩
  | .hbm, ⟨21, _⟩ => ⟨S4096x256, .f32⟩
  | .hbm, ⟨22, _⟩ => ⟨S4096x1, .f32⟩
  | .hbm, ⟨23, _⟩ => ⟨S4096x256, .f32⟩
  | .hbm, ⟨24, _⟩ => ⟨S4096x256, .f32⟩
  | .hbm, ⟨25, _⟩ => ⟨S256x4096, .f32⟩
  | _, _ => ⟨S256x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_c_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩

abbrev nD : Nat := 1
abbrev τ : Topo := Topo.v7x

variable {F : FTy → Type} [FloatOps F]
-- ==== Proof.Setup.lean ====
/-
  The program as the launch theorem sees it, the resource algebra, and short names for the kernel's memrefs.
-/
module

public import proofs.«01_k».proof.Defs
public import Idealize.ShloMosaic.Lib.SparseCore.Quiescent
public import Idealize.ShloMosaic.Lib.SparseCore.Ops
public import Idealize.ShloMosaic.Lib.Batch
public import Idealize.ShloMosaic.Lib.StableHlo.Run
public import Idealize.ShloMosaic.Lib.Pipeline.Kit
public import Idealize.ShloMosaic.Lib.Tactic
public import proofs.«01_k».proof.Proof.Gen.KernelIdeal
public import proofs.«01_k».proof.Proof.Gen.KernelIdeal.Skeleton

@[expose] public section

noncomputable section

namespace Cert.Proof.Spmm

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The program -/

abbrev ΛP : Labels := Pipeline.Sig Λ₀ (Fin 0) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem scFacts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds, the transfers' counters -/

abbrev UH : Type := URounds (GSem nD τ sig) ℕ
abbrev UU : Type := UH × Counters

/-- The one resource algebra of the certificate. -/
abbrev MM (F : FTy → Type) : Type := MT nD τ sig (HIx 1) (Elt F) ℕ UU ℕ

abbrev EH : Emb UH (MM F) := embL

/-! ## The kernel's memrefs: arguments (HBM) and scratch buffers (tile memory) -/

abbrev xM : Memref sig .scVector .hbm S256x4096 .f32 := Memref.whole main_arg0_scv
abbrev vM : Memref sig .scVector .hbm S167936 .f32 := Memref.whole main_v5_scv
abbrev bM : Memref sig .scVector .hbm S4096 .f32 := Memref.whole main_arg2_scv
abbrev rM : Memref sig .scVector .hbm S167936 .i32 := Memref.whole main_v1_scv
abbrev cM : Memref sig .scVector .hbm S167936 .i32 := Memref.whole main_v3_scv
abbrev oM : Memref sig .scVector .hbm S256x4096 .f32 := Memref.whole main_v6_scv
abbrev xS : Memref sig .scVector .vmem S32768 .f32 := Memref.whole cc0_scratch0
abbrev aS : Memref sig .scVector .vmem S32768 .f32 := Memref.whole cc0_scratch1
abbrev rS : Memref sig .scVector .vmem S4096 .i32 := Memref.whole cc0_scratch2
abbrev cS : Memref sig .scVector .vmem S4096 .i32 := Memref.whole cc0_scratch3
abbrev vS : Memref sig .scVector .vmem S4096 .f32 := Memref.whole cc0_scratch4

/-! ## The tile's thread -/

abbrev cV (L : grid0.Coords) : Fin τ.nSC := (L 0).castLE hcore0
abbrev jV (L : grid0.Coords) : Fin τ.nSub := (L 1).castLE hsub0
abbrev VT (d : Dev nD) (L : grid0.Coords) : Thread nD τ := V d (cV L) (jV L)

/-- The first of the tile's eight batch rows. -/
abbrev base (L : grid0.Coords) : ℕ := 16 * (L 1).val + 8 * (L 0).val

end Cert.Proof.Spmm
-- ==== Proof.Group.lean ====
/-
  The kernel's inner step, once: a GROUP of sixteen edges. The four loops over a buffer half (two in the streaming
  loop, two after it) run the same body at another offset into the row / column / value buffers; each is `group` at its
  offset, by unfolding.
-/
module

public import proofs.«01_k».proof.Proof.Setup

@[expose] public section

set_option maxRecDepth 65536

noncomputable section

namespace Cert.Proof.Spmm

open Cert.KernelIdeal Cert.KernelIdeal.Gen
open Idealize.ShloMosaic
open Idealize.SL.Sem

variable {F : FTy → Type} [FloatOps F]

/-- One batch row of a group: gather sixteen words of `x` at `c + b`, multiply by the values, add onto the accumulator
    at `r + b`. -/
def gpair (L : grid0.Coords) (b : BitVec 32) (r c : IVec S16 32) (w : Vec F S16 .f32) :
    Prog (TpuEff nD τ sig (Elt F) Λ₀ (.scVector (cV L) (jV L))) PUnit := do
  have h1 : k0_chk1 (addi c (broadcast S16 b)) := (← Prog.lift (TpuEff.assume (k0_chk1 (addi c (broadcast S16 b))) (k0_chk1.dec _))).down
  let g : Vec F S16 .f32 ← SparseCore.vectorLoadIdx xS ![addi c (broadcast S16 b)] (k0_idx1_inb _ h1) (View.loads_vmem h_S32768)
  have h2 : k0_chk1 (addi r (broadcast S16 b)) := (← Prog.lift (TpuEff.assume (k0_chk1 (addi r (broadcast S16 b))) (k0_chk1.dec _))).down
  SparseCore.vectorStoreIdx aS ![addi r (broadcast S16 b)] (mulf g w : FVec F S16 .f32) (fun _ => 1#1) true (k0_idx1_inb _ h2) (View.stores_vmem_bits_univ h_S32768 rfl)

/-- A group of sixteen edges at offset `off` of the row / column / value buffers. -/
def group (L : grid0.Coords) (off : Fin 1 → Nat) (hoff : ∀ a, off a + S16.size a ≤ S4096.size a) :
    Prog (TpuEff nD τ sig (Elt F) Λ₀ (.scVector (cV L) (jV L))) Unit := do
  let r : Vec F S16 .i32 ← Prog.lift (.load rS (Rect.unit (s := S4096) off S16.size hoff).toLoadRect (View.loadsAt_vmem h_S16))
  let c : Vec F S16 .i32 ← Prog.lift (.load cS (Rect.unit (s := S4096) off S16.size hoff).toLoadRect (View.loadsAt_vmem h_S16))
  let w : Vec F S16 .f32 ← Prog.lift (.load vS (Rect.unit (s := S4096) off S16.size hoff).toLoadRect (View.loadsAt_vmem h_S16))
  gpair L 0#32 r c w
  gpair L 4096#32 r c w
  gpair L 8192#32 r c w
  gpair L 12288#32 r c w
  gpair L 16384#32 r c w
  gpair L 20480#32 r c w
  gpair L 24576#32 r c w
  gpair L 28672#32 r c w
  pure ⟨⟩

theorem t2_body_eq (L : grid0.Coords) (a b : BitVec 32) (t1 : Fin k0_t1_loop.trips) :
    k0_t2_body (F := F) L xM (Memref.isWhole_whole _) vM (Memref.isWhole_whole _) bM (Memref.isWhole_whole _) rM (Memref.isWhole_whole _) cM (Memref.isWhole_whole _) oM (Memref.isWhole_whole _)
    xS (Memref.isWhole_whole _) aS (Memref.isWhole_whole _) rS (Memref.isWhole_whole _) cS (Memref.isWhole_whole _) vS (Memref.isWhole_whole _)
    cc0_scratch5 cc0_scratch6 cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 cc0_scoped17 cc0_scoped18 cc0_scoped19 cc0_scoped20 cc0_scoped21 cc0_scoped22 cc0_scoped23 a b t1
      = fun t _ => group L (k0_off2 t) (k0_off2_inb t) := rfl

theorem t3_body_eq (L : grid0.Coords) (a : BitVec 32) (t1 : Fin k0_t1_loop.trips) :
    k0_t3_body (F := F) L xM (Memref.isWhole_whole _) vM (Memref.isWhole_whole _) bM (Memref.isWhole_whole _) rM (Memref.isWhole_whole _) cM (Memref.isWhole_whole _) oM (Memref.isWhole_whole _)
    xS (Memref.isWhole_whole _) aS (Memref.isWhole_whole _) rS (Memref.isWhole_whole _) cS (Memref.isWhole_whole _) vS (Memref.isWhole_whole _)
    cc0_scratch5 cc0_scratch6 cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 cc0_scoped17 cc0_scoped18 cc0_scoped19 cc0_scoped20 cc0_scoped21 cc0_scoped22 cc0_scoped23 t1 a
      = fun t _ => group L (k0_off4 t) (k0_off4_inb t) := rfl

theorem t4_body_eq (L : grid0.Coords) (a : BitVec 32) :
    k0_t4_body (F := F) L xM (Memref.isWhole_whole _) vM (Memref.isWhole_whole _) bM (Memref.isWhole_whole _) rM (Memref.isWhole_whole _) cM (Memref.isWhole_whole _) oM (Memref.isWhole_whole _)
    xS (Memref.isWhole_whole _) aS (Memref.isWhole_whole _) rS (Memref.isWhole_whole _) cS (Memref.isWhole_whole _) vS (Memref.isWhole_whole _)
    cc0_scratch5 cc0_scratch6 cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 cc0_scoped17 cc0_scoped18 cc0_scoped19 cc0_scoped20 cc0_scoped21 cc0_scoped22 cc0_scoped23 a
      = fun t _ => group L (k0_off5 t) (k0_off5_inb t) := rfl

theorem t5_body_eq (L : grid0.Coords) (a : BitVec 32) :
    k0_t5_body (F := F) L xM (Memref.isWhole_whole _) vM (Memref.isWhole_whole _) bM (Memref.isWhole_whole _) rM (Memref.isWhole_whole _) cM (Memref.isWhole_whole _) oM (Memref.isWhole_whole _)
    xS (Memref.isWhole_whole _) aS (Memref.isWhole_whole _) rS (Memref.isWhole_whole _) cS (Memref.isWhole_whole _) vS (Memref.isWhole_whole _)
    cc0_scratch5 cc0_scratch6 cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 cc0_scoped17 cc0_scoped18 cc0_scoped19 cc0_scoped20 cc0_scoped21 cc0_scoped22 cc0_scoped23 a
      = fun t _ => group L (k0_off6 t) (k0_off6_inb t) := rfl

end Cert.Proof.Spmm
-- ==== Proof.Value.lean ====
/-
  The VALUE the kernel computes, over any float values `F`.

  One result element `(b, r)` starts at `bias[r]`; the edges `0, 1, 2, …` are taken in order and edge `e` with
  `row[e] = r` adds `x[b, col[e]] · val[e]` onto it. `elemAt b r n` is that element after the first `n` edges.

  A tile keeps eight batch rows side by side in one buffer of 32768 words (word `4096·b + r` is row `b`, column `r`).
  `accAt base n` is that buffer after `n` edges; `accMid base n b` the same with a group of sixteen edges already added
  to the first `b` rows only: what the buffer holds between two of the group's eight gather / scatter-add pairs. The
  module's result is `storeIdx_mid`: one scatter-add of sixteen lanes takes `accMid … b` to `accMid … (b + 1)`.
-/
module

public import proofs.«01_k».proof.Defs
public import proofs.«01_k».proof.Proof.Gen.KernelIdeal
public import proofs.«01_k».proof.Proof.Gen.KernelIdeal.Skeleton

@[expose] public section

noncomputable section

namespace Cert.Proof.Spmm

open Cert.KernelIdeal Cert.KernelIdeal.Gen
open Idealize.ShloMosaic

variable {F : FTy → Type}

/-! ## Indices by number -/

/-- Element `e` of a rank-one shape of `n` elements (taken modulo `n`, so that every number names one). -/
def at1 {n : ℕ} (hn : 0 < n) (e : ℕ) : (⟨1, ![n]⟩ : Shape).Idx :=
  fun a => ⟨e % n, by rw [Fin.eq_zero a]; exact Nat.mod_lt _ hn⟩

theorem at1_val {n : ℕ} (hn : 0 < n) (e : ℕ) (he : e < n) (a : Fin 1) : (at1 hn e a).val = e := Nat.mod_eq_of_lt he

theorem at1_eq {n : ℕ} (hn : 0 < n) (j : (⟨1, ![n]⟩ : Shape).Idx) (e : ℕ) (h : (j 0).val = e) : at1 hn e = j := by
  funext a
  apply Fin.ext
  have ha : a = 0 := Fin.eq_zero a
  subst ha
  have hj : (j 0).val < n := (j 0).isLt
  show e % n = _
  rw [← h, Nat.mod_eq_of_lt hj]

/-- Element `(r, c)` of a 256 × 4096 array. -/
def at2 (r c : ℕ) : S256x4096.Idx := fun a => match a with
  | 0 => ⟨r % 256, Nat.mod_lt _ (by decide)⟩
  | 1 => ⟨c % 4096, Nat.mod_lt _ (by decide)⟩

theorem at2_eq (j : S256x4096.Idx) (r c : ℕ) (hr : (j 0).val = r) (hc : (j 1).val = c) : at2 r c = j := by
  have h0 : (j 0).val < 256 := (j 0).isLt
  have h1 : (j 1).val < 4096 := (j 1).isLt
  funext a; apply Fin.ext
  match a with
  | 0 => show r % 256 = _; rw [← hr, Nat.mod_eq_of_lt h0]
  | 1 => show c % 4096 = _; rw [← hc, Nat.mod_eq_of_lt h1]

/-- Edge `e` of the padded edge list. -/
abbrev edge (e : ℕ) : S167936.Idx := at1 (n := 167936) (by decide) e

/-! ## One element -/

variable [FloatOps F]
variable (x : S256x4096.Idx → Elt F .f32) (bias : S4096.Idx → Elt F .f32)
variable (row col : S167936.Idx → BitVec 32) (val : S167936.Idx → Elt F .f32)

/-- What edge `e` adds to batch row `b`. -/
def contrib (b e : ℕ) : Elt F .f32 := FloatOps.mulf (x (at2 b (col (edge e)).toNat)) (val (edge e))

/-- Element `(b, r)` after the first `n` edges. -/
def elemAt (b r : ℕ) : ℕ → Elt F .f32
  | 0 => bias (at1 (n := 4096) (by decide) r)
  | n + 1 => if (row (edge n)).toNat = r then Elt.idxAdd .f32 (elemAt b r n) (contrib x col val b n) else elemAt b r n

/-! ## A tile's buffers -/

/-- The tile's eight batch rows of `x`, from batch row `base` on. -/
def xBuf (base : ℕ) : S32768.Idx → Elt F .f32 := fun j => x (at2 (base + (j 0).val / 4096) ((j 0).val % 4096))

/-- The tile's eight accumulator rows after `n` edges. -/
def accAt (base n : ℕ) : S32768.Idx → Elt F .f32 :=
  fun j => elemAt x bias row col val (base + (j 0).val / 4096) ((j 0).val % 4096) n

/-- After `n` edges everywhere and the next `k` edges on rows below `b`. -/
def accMid (base n k b : ℕ) : S32768.Idx → Elt F .f32 :=
  fun j => if (j 0).val / 4096 < b then accAt x bias row col val base (n + k) j else accAt x bias row col val base n j

theorem accMid_zero (base n k : ℕ) : accMid x bias row col val base n k 0 = accAt x bias row col val base n := by
  funext j; simp [accMid]

theorem accMid_eight (base n k : ℕ) : accMid x bias row col val base n k 8 = accAt x bias row col val base (n + k) := by
  funext j
  have : (j 0).val < 32768 := (j 0).isLt
  have h : (j 0).val / 4096 < 8 := by omega
  simp [accMid, h]

/-! ## One scatter-add of sixteen lanes -/

/-- A scatter-add's lanes one at a time: if lane `k` takes `G k` to `G (k + 1)`, all the lanes take `G 0` to the last. -/
theorem foldl_lanes {α : Type} (N : ℕ) (step : α → Fin N → α) (G : ℕ → α) (h : ∀ k : Fin N, step (G k.val) k = G (k.val + 1)) :
    (List.finRange N).foldl step (G 0) = G N := by
  have key : ∀ n (hn : n ≤ N), ((List.finRange N).take n).foldl step (G 0) = G n := by
    intro n
    induction n with
    | zero => intro _; simp
    | succ n ih =>
      intro hn
      have hlt : n < (List.finRange N).length := by simpa using hn
      rw [List.take_succ_eq_append_getElem hlt, List.foldl_append, ih (by omega)]
      simpa using h ⟨n, hn⟩
  have := key N le_rfl
  rwa [List.take_of_length_le (by simp)] at this

/-- The group's `b`-th scatter-add: sixteen lanes, lane `l` at word `row (n + l) + 4096·b`, adding that edge's product. -/
theorem storeIdx_mid (base n b : ℕ) (hb : b < 8) (idxs : Fin 1 → IVec S16 32) (v : Vec F S16 .f32)
    (h : ∀ a y, (idxs a y).toNat < S32768.size a)
    (hrow : ∀ l, l < 16 → (row (edge (n + l))).toNat < 4096)
    (hi : ∀ y : S16.Idx, (idxs 0 y).toNat = (row (edge (n + (y 0).val))).toNat + 4096 * b)
    (hv : ∀ y : S16.Idx, v y = contrib x col val (base + b) (n + (y 0).val)) :
    storeIdx (s := S32768) (d := ![16]) (accMid x bias row col val base n 16 b) idxs v (fun _ => 1#1) true h
      = accMid x bias row col val base n 16 (b + 1) := by
  have e0 : accMid x bias row col val base n 16 b
      = (fun j : S32768.Idx => if (j 0).val / 4096 = b then accAt x bias row col val base (n + 0) j
          else accMid x bias row col val base n 16 b j) := by
    funext j
    by_cases hj : (j 0).val / 4096 = b
    · simp [accMid, hj]
    · simp [hj]
  have e1 : accMid x bias row col val base n 16 (b + 1)
      = (fun j : S32768.Idx => if (j 0).val / 4096 = b then accAt x bias row col val base (n + 16) j
          else accMid x bias row col val base n 16 b j) := by
    funext j
    by_cases hj : (j 0).val / 4096 = b
    · simp [accMid, hj]
    · have : ((j 0).val / 4096 < b + 1) ↔ ((j 0).val / 4096 < b) := by omega
      simp [accMid, hj, this]
  rw [e1]
  conv_lhs => rw [e0]
  unfold storeIdx
  refine foldl_lanes 16 _ (fun k => fun j : S32768.Idx => if (j 0).val / 4096 = b then accAt x bias row col val base (n + k) j
          else accMid x bias row col val base n 16 b j) ?_
  intro k
  have hk : ((Shape.ofLane (d := ![16]) k) 0).val = k.val := rfl
  have hi' := hi (Shape.ofLane (d := ![16]) k)
  have hv' := hv (Shape.ofLane (d := ![16]) k)
  rw [hk] at hi' hv'
  have hr := hrow k.val k.isLt
  simp only [show ((1#1 : BitVec 1) = 1) = True from eq_true rfl, if_true]
  funext j
  have hat : ∀ a : Fin 1, (idxAt (s := S32768) idxs h (Shape.ofLane (d := ![16]) k) a).val = (idxs a (Shape.ofLane (d := ![16]) k)).toNat := fun _ => rfl
  by_cases hj : ∀ a, (j a).val = (idxAt idxs h (Shape.ofLane (d := ![16]) k) a).val
  · rw [if_pos hj]
    have hji : (idxAt idxs h (Shape.ofLane (d := ![16]) k)) = j := by funext a; exact Fin.ext (hj a).symm
    rw [hji, hv']
    have hj0 : (j 0).val = (row (edge (n + k.val))).toNat + 4096 * b := by rw [hj 0, hat, hi']
    have hdiv : (j 0).val / 4096 = b := by omega
    have hmod : (j 0).val % 4096 = (row (edge (n + k.val))).toNat := by omega
    simp only [hdiv, if_true]
    show _ = elemAt x bias row col val (base + (j 0).val / 4096) ((j 0).val % 4096) (n + (k.val + 1))
    rw [show n + (k.val + 1) = (n + k.val) + 1 from rfl, elemAt, if_pos hmod.symm]
    simp only [accAt, hdiv]
  · rw [if_neg hj]
    by_cases hdiv : (j 0).val / 4096 = b
    · simp only [hdiv, if_true]
      have hne : ¬ (row (edge (n + k.val))).toNat = (j 0).val % 4096 := by
        intro hc
        apply hj; intro a; rw [Fin.eq_zero a, hat, hi']; omega
      show elemAt x bias row col val (base + (j 0).val / 4096) ((j 0).val % 4096) (n + k.val)
        = elemAt x bias row col val (base + (j 0).val / 4096) ((j 0).val % 4096) ((n + k.val) + 1)
      rw [elemAt, if_neg hne]
    · simp only [hdiv, if_false]

end Cert.Proof.Spmm
-- ==== Proof.GroupRun.lean ====
/-
  A group's run: from the tile's eight rows of `x` and its accumulator after `n` edges, with the next sixteen edges in
  the row / column / value buffers, the accumulator after `n + 16` edges.
-/
module

public import proofs.«01_k».proof.Proof.Group
public import proofs.«01_k».proof.Proof.Value

@[expose] public section

noncomputable section

namespace Cert.Proof.Spmm

open Cert.KernelIdeal Cert.KernelIdeal.Gen
open Idealize.ShloMosaic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type}

local notation "𝕄" => MT nD τ sig (HIx 1) (Elt F) ℕ UU ℕ

/-- Adding a row's base word: `v + 4096·b` does not wrap below 32768. -/
theorem toNat_add_base (v : IVec S16 32) (b : ℕ) (hb : b < 8) (y : S16.Idx) (hv : (v y).toNat < 4096) :
    ((addi v (broadcast S16 (BitVec.ofNat 32 (4096 * b)))) y).toNat = (v y).toNat + 4096 * b := by
  show (v y + BitVec.ofNat 32 (4096 * b)).toNat = _
  rw [BitVec.toNat_add, BitVec.toNat_ofNat, Nat.mod_eq_of_lt (show 4096 * b < 2 ^ 32 by omega), Nat.mod_eq_of_lt]
  omega

theorem chk_of_lt (v : IVec S16 32) (b : ℕ) (hb : b < 8) (hv : ∀ y, (v y).toNat < 4096) :
    k0_chk1 (addi v (broadcast S16 (BitVec.ofNat 32 (4096 * b)))) := by
  intro a y
  rw [Fin.eq_zero a]
  show ((addi v (broadcast S16 (BitVec.ofNat 32 (4096 * b)))) y).toNat < 32768
  rw [toNat_add_base v b hb y (hv y)]
  have := hv y
  omega

variable [FloatOps F]

/-- The scatter-add onto the accumulator held whole. -/
theorem wp_scatter (d : Dev nD) (L : grid0.Coords) (idxs : Fin 1 → IVec S16 32) (v : Vec F S16 .f32)
    (h : ∀ a x, (idxs a x).toNat < S32768.size a) (hs : ((aS).access (.whole S32768)).Stores Finset.univ)
    (A : S32768.Idx → Elt F .f32) (Q : PUnit → sProp 𝕄) :
    ((aS).view.loc (VT d L) ↦{fullShare} A)
      ⊢ iprop((((aS).view.loc (VT d L) ↦{fullShare} (storeIdx (s := S32768) (d := ![16]) (e := .f32) A idxs v (fun _ => 1#1) true h)) -∗ Q ⟨⟩)
        -∗ wp frame (wpE (defs₀ (F := F)) 𝒱₀ (VT d L) none) Set.univ
            (SparseCore.vectorStoreIdx (s := S32768) (d := ![16]) aS idxs v (fun _ => 1#1) true h hs) Q) := by
  have e : ∀ f : Buf (Elt F) ((aS).view.loc (VT d L)), ((aS).view.loc (VT d L) ↦{fullShare} f : sProp 𝕄)
      = (((aS).access (.whole S32768)).loc (VT d L) ↦[((aS).access (.whole S32768)).set]{fullShare} f) := by
    intro f
    rw [show ((aS).access (.whole S32768)).set = Finset.univ from by
      show ((View.whole (cc0_scratch1 : Ref sig .scVector)).slice (Rect.whole S32768)).set = _
      rw [View.set_slice]
      exact (congrArg (Finset.map _) (Rect.set_whole S32768)).trans (View.set_whole cc0_scratch1)]
  have hr : ∀ f : S32768.Idx → Elt F .f32, ((aS).access (.whole S32768)).read (Elt F) f = f :=
    fun f => Memref.read_access_whole (Elt F) cc0_scratch1 f
  have hw : ∀ f g : S32768.Idx → Elt F .f32, ((aS).access (.whole S32768)).write (Elt F) f g Finset.univ = g :=
    fun f g => Memref.write_access_whole_univ (Elt F) cc0_scratch1 f g
  have hb := SparseCore.wp_vectorStoreIdx (Name := ℕ) (U := UU) (Lvl := ℕ) (Ix := HIx 1) (defs := defs₀ (F := F)) 𝒱₀ (VT d L) none Set.univ (base := aS) (d := ![16]) (idxs := idxs) (v := v) (mask := fun _ => 1#1) (add := true) (h := h)
    (hs := hs) (k := fun x => pure x) (f := A) (Q := Q)
  rw [bind_pure, hr, hw] at hb
  iintro HA Hk
  ihave HA := (Entails.of_eq (e _)) $$ HA
  ihave Hb := hb $$ HA
  iapply Hb
  iintro HA
  ihave HA := (Entails.of_eq (e _).symm) $$ HA
  rw [wp_pure]; imodintro
  iapply Hk; iexact HA

/-- One batch row of a group, at any contents. -/
theorem wp_gpair (d : Dev nD) (L : grid0.Coords) (b : BitVec 32) (r c : IVec S16 32) (w : Vec F S16 .f32)
    (X A : S32768.Idx → Elt F .f32) (h1 : k0_chk1 (addi c (broadcast S16 b))) (h2 : k0_chk1 (addi r (broadcast S16 b)))
    (Q : PUnit → sProp 𝕄) :
    iprop(((xS).view.loc (VT d L) ↦{fullShare} X) ∗ ((aS).view.loc (VT d L) ↦{fullShare} A)
      ∗ (((xS).view.loc (VT d L) ↦{fullShare} X)
          -∗ ((aS).view.loc (VT d L) ↦{fullShare}
              (storeIdx (s := S32768) (d := ![16]) (e := .f32) A ![addi r (broadcast S16 b)]
                (mulf (loadIdx (s := S32768) (e := .f32) X ![addi c (broadcast S16 b)] h1 : FVec F S16 .f32) w : FVec F S16 .f32) (fun _ => 1#1) true h2))
          -∗ Q ⟨⟩))
      ⊢ wp frame (wpE (defs₀ (F := F)) 𝒱₀ (VT d L) none) Set.univ (gpair L b r c w) Q := by
  iintro ⟨HX, HA, Hk⟩
  unfold gpair
  rw [wp_bind]
  iapply (wp_assume 𝒱₀ (VT d L) none Set.univ h1)
  rw [wp_ret]; imodintro
  iapply (SparseCore.wp_vectorLoadIdx 𝒱₀ (VT d L) none Set.univ (base := xS) (S := Finset.univ) (q := fullShare) (Finset.subset_univ _)) $$ HX
  iintro HX
  rw [wp_bind]
  iapply (wp_assume 𝒱₀ (VT d L) none Set.univ h2)
  rw [wp_ret]; imodintro
  iapply (wp_scatter d L _ _ _ _ A Q) $$ HA
  iintro HA
  rw [show ((xS).access (.whole S32768)).read (Elt F) X = X from Memref.read_access_whole (Elt F) cc0_scratch0 X]
  iapply Hk $$ HX HA

variable (x : S256x4096.Idx → Elt F .f32) (bias : S4096.Idx → Elt F .f32)
variable (row col : S167936.Idx → BitVec 32) (val : S167936.Idx → Elt F .f32)

/-- One batch row of a group, at the values: rows below `b` have the group's edges, after it row `b` has them too. -/
theorem wp_gpair_mid (d : Dev nD) (L : grid0.Coords) (n b : ℕ) (hb : b < 8) (r c : IVec S16 32) (w : Vec F S16 .f32)
    (hrow : ∀ e, (row e).toNat < 4096) (hcol : ∀ e, (col e).toNat < 4096)
    (hr : ∀ y : S16.Idx, r y = row (edge (n + (y 0).val))) (hc : ∀ y : S16.Idx, c y = col (edge (n + (y 0).val)))
    (hw : ∀ y : S16.Idx, w y = val (edge (n + (y 0).val)))
    (Q : PUnit → sProp 𝕄) :
    iprop(((xS).view.loc (VT d L) ↦{fullShare} xBuf x (base L)) ∗ ((aS).view.loc (VT d L) ↦{fullShare} accMid x bias row col val (base L) n 16 b)
      ∗ (((xS).view.loc (VT d L) ↦{fullShare} xBuf x (base L))
          -∗ ((aS).view.loc (VT d L) ↦{fullShare} accMid x bias row col val (base L) n 16 (b + 1))
          -∗ Q ⟨⟩))
      ⊢ wp frame (wpE (defs₀ (F := F)) 𝒱₀ (VT d L) none) Set.univ (gpair L (BitVec.ofNat 32 (4096 * b)) r c w) Q := by
  have hr' : ∀ y, (r y).toNat < 4096 := fun y => by rw [hr]; exact hrow _
  have hc' : ∀ y, (c y).toNat < 4096 := fun y => by rw [hc]; exact hcol _
  have h1 := chk_of_lt c b hb hc'
  have h2 := chk_of_lt r b hb hr'
  have e := storeIdx_mid x bias row col val (base L) n b hb ![addi r (broadcast S16 (BitVec.ofNat 32 (4096 * b)))]
    (mulf (loadIdx (s := S32768) (e := .f32) (xBuf x (base L)) ![addi c (broadcast S16 (BitVec.ofNat 32 (4096 * b)))] h1 : FVec F S16 .f32) w : FVec F S16 .f32)
    h2 (fun l _ => hrow _)
    (fun y => by
      show ((addi r (broadcast S16 (BitVec.ofNat 32 (4096 * b)))) y).toNat = _
      rw [toNat_add_base r b hb y (hr' y), hr])
    (fun y => by
      show FloatOps.mulf (xBuf x (base L) (idxAt (s := S32768) _ h1 y)) (w y) = _
      have hi : ((idxAt (s := S32768) ![addi c (broadcast S16 (BitVec.ofNat 32 (4096 * b)))] h1 y) 0).val = (c y).toNat + 4096 * b :=
        toNat_add_base c b hb y (hc' y)
      have := hc' y
      unfold xBuf contrib
      rw [hi, hw, ← hc y, show ((c y).toNat + 4096 * b) / 4096 = b by omega, show ((c y).toNat + 4096 * b) % 4096 = (c y).toNat by omega])
  iintro ⟨HX, HA, Hk⟩
  iapply (wp_gpair d L (BitVec.ofNat 32 (4096 * b)) r c w (xBuf x (base L)) (accMid x bias row col val (base L) n 16 b) h1 h2 Q)
  isplitl [HX]; · iexact HX
  isplitl [HA]; · iexact HA
  iintro HX HA
  rw [e]
  iapply Hk $$ HX HA

/-- A group of sixteen edges at offset `off` of the buffers: from the accumulator after `n` edges to it after `n + 16`. -/
theorem wp_group (d : Dev nD) (L : grid0.Coords) (off : Fin 1 → Nat) (hoff : ∀ a, off a + S16.size a ≤ S4096.size a) (n : ℕ)
    (hrow : ∀ e, (row e).toNat < 4096) (hcol : ∀ e, (col e).toNat < 4096)
    (Sr : Finset (Idx ((rS).view.loc (VT d L)))) (Sc : Finset (Idx ((cS).view.loc (VT d L)))) (Sv : Finset (Idx ((vS).view.loc (VT d L))))
    (fr fc : S4096.Idx → BitVec 32) (fv : S4096.Idx → Elt F .f32)
    (hSr : ((rS).access (Rect.unit (s := S4096) off S16.size hoff)).set ⊆ Sr)
    (hSc : ((cS).access (Rect.unit (s := S4096) off S16.size hoff)).set ⊆ Sc)
    (hSv : ((vS).access (Rect.unit (s := S4096) off S16.size hoff)).set ⊆ Sv)
    (hr : ∀ y : S16.Idx, fr ((Rect.unit (s := S4096) off S16.size hoff).emb y) = row (edge (n + (y 0).val)))
    (hc : ∀ y : S16.Idx, fc ((Rect.unit (s := S4096) off S16.size hoff).emb y) = col (edge (n + (y 0).val)))
    (hw : ∀ y : S16.Idx, fv ((Rect.unit (s := S4096) off S16.size hoff).emb y) = val (edge (n + (y 0).val))) :
    (iprop(((xS).view.loc (VT d L) ↦{fullShare} xBuf x (base L)) ∗ ((aS).view.loc (VT d L) ↦{fullShare} accAt x bias row col val (base L) n)
      ∗ ((rS).view.loc (VT d L) ↦[Sr]{fullShare} fr) ∗ ((cS).view.loc (VT d L) ↦[Sc]{fullShare} fc) ∗ ((vS).view.loc (VT d L) ↦[Sv]{fullShare} fv)) : sProp 𝕄)
      ⊢ wp frame (wpE (defs₀ (F := F)) 𝒱₀ (VT d L) none) Set.univ (group L off hoff) fun _ =>
          iprop(((xS).view.loc (VT d L) ↦{fullShare} xBuf x (base L)) ∗ ((aS).view.loc (VT d L) ↦{fullShare} accAt x bias row col val (base L) (n + 16))
            ∗ ((rS).view.loc (VT d L) ↦[Sr]{fullShare} fr) ∗ ((cS).view.loc (VT d L) ↦[Sc]{fullShare} fc) ∗ ((vS).view.loc (VT d L) ↦[Sv]{fullShare} fv)) := by
  iintro ⟨HX, HA, HR, HC, HV⟩
  unfold group
  rw [wp_bind]
  iapply (wp_load_rect 𝒱₀ (VT d L) none Set.univ (m := rS) (r := Rect.unit (s := S4096) off S16.size hoff) (S := Sr) hSr) $$ HR
  iintro HR
  rw [wp_ret]; imodintro
  rw [wp_bind]
  iapply (wp_load_rect 𝒱₀ (VT d L) none Set.univ (m := cS) (r := Rect.unit (s := S4096) off S16.size hoff) (S := Sc) hSc) $$ HC
  iintro HC
  rw [wp_ret]; imodintro
  rw [wp_bind]
  iapply (wp_load_rect 𝒱₀ (VT d L) none Set.univ (m := vS) (r := Rect.unit (s := S4096) off S16.size hoff) (S := Sv) hSv) $$ HV
  iintro HV
  rw [wp_ret]; imodintro
  ihave HA := (Entails.of_eq (congrArg (fun f => ((aS).view.loc (VT d L) ↦{fullShare} f : sProp 𝕄)) (accMid_zero x bias row col val (base L) n 16).symm)) $$ HA
  rw [wp_bind]
  iapply (wp_gpair_mid x bias row col val d L n 0 (by decide) _ _ _ hrow hcol hr hc hw)
  isplitl [HX]; · iexact HX
  isplitl [HA]; · iexact HA
  iintro HX HA
  rw [wp_bind]
  iapply (wp_gpair_mid x bias row col val d L n 1 (by decide) _ _ _ hrow hcol hr hc hw)
  isplitl [HX]; · iexact HX
  isplitl [HA]; · iexact HA
  iintro HX HA
  rw [wp_bind]
  iapply (wp_gpair_mid x bias row col val d L n 2 (by decide) _ _ _ hrow hcol hr hc hw)
  isplitl [HX]; · iexact HX
  isplitl [HA]; · iexact HA
  iintro HX HA
  rw [wp_bind]
  iapply (wp_gpair_mid x bias row col val d L n 3 (by decide) _ _ _ hrow hcol hr hc hw)
  isplitl [HX]; · iexact HX
  isplitl [HA]; · iexact HA
  iintro HX HA
  rw [wp_bind]
  iapply (wp_gpair_mid x bias row col val d L n 4 (by decide) _ _ _ hrow hcol hr hc hw)
  isplitl [HX]; · iexact HX
  isplitl [HA]; · iexact HA
  iintro HX HA
  rw [wp_bind]
  iapply (wp_gpair_mid x bias row col val d L n 5 (by decide) _ _ _ hrow hcol hr hc hw)
  isplitl [HX]; · iexact HX
  isplitl [HA]; · iexact HA
  iintro HX HA
  rw [wp_bind]
  iapply (wp_gpair_mid x bias row col val d L n 6 (by decide) _ _ _ hrow hcol hr hc hw)
  isplitl [HX]; · iexact HX
  isplitl [HA]; · iexact HA
  iintro HX HA
  rw [wp_bind]
  iapply (wp_gpair_mid x bias row col val d L n 7 (by decide) _ _ _ hrow hcol hr hc hw)
  isplitl [HX]; · iexact HX
  isplitl [HA]; · iexact HA
  iintro HX HA
  rw [wp_pure]; imodintro
  rw [accMid_eight]
  isplitl [HX]; · iexact HX
  isplitl [HA]; · iexact HA
  isplitl [HR]; · iexact HR
  isplitl [HC]; · iexact HC
  iexact HV

end Cert.Proof.Spmm
-- ==== Proof.Shape.lean ====
/-
  The kernel's program in a normal form: the copies in of the tile's rows and of the bias, the two buffer halves
  FILLED, the streaming loop, the last two halves, the copies out. Each step is named once, at a symbolic batch row or
  buffer half; the printed program is their sequence.
-/
module

public import proofs.«01_k».proof.Proof.Group

@[expose] public section

set_option maxRecDepth 65536
set_option maxHeartbeats 4000000

noncomputable section

namespace Cert.Proof.Spmm

open Cert.KernelIdeal Cert.KernelIdeal.Gen
open Idealize.ShloMosaic
open Idealize.SL.Sem

variable {F : FTy → Type} [FloatOps F]

theorem inb_row (b : Fin 8) : ∀ a, (![4096 * b.val] : Fin 1 → Nat) a + S4096.size a ≤ S32768.size a := by
  intro a
  rw [Fin.eq_zero a]
  show 4096 * b.val + 4096 ≤ 32768
  have := b.isLt
  omega

/-! ## The windows -/

/-- Batch row `base L + b` of an array of 256 rows. -/
abbrev rowW (M : Memref sig .scVector .hbm S256x4096 .f32) (L : grid0.Coords) (b : Fin 8) : Memref sig .scVector .hbm S4096 .f32 :=
  (M.slice (Rect.unit (s := S256x4096) (k0_off1 L (BitVec.ofNat 32 b.val)) S1x4096.size (k0_off1_inb L b)) (fun _ => rfl)).squeeze S4096 squeezes_S1x4096_S4096

/-- Row `b` of one of the tile's two accumulating buffers. -/
abbrev tileW (M : Memref sig .scVector .vmem S32768 .f32) (b : Fin 8) : Memref sig .scVector .vmem S4096 .f32 :=
  M.slice (Rect.unit (s := S32768) ![4096 * b.val] S4096.size (inb_row b)) (fun _ => rfl)

/-- 2048 words of an edge array, from `off`. -/
abbrev srcW {e : EltTy} (M : Memref sig .scVector .hbm S167936 e) (off : Fin 1 → Nat) (h : ∀ a, off a + S2048.size a ≤ S167936.size a) :
    Memref sig .scVector .hbm S2048 e :=
  M.slice (Rect.unit (s := S167936) off S2048.size h) (fun _ => rfl)

/-- Half of an edge buffer, from `o`. -/
abbrev halfW {e : EltTy} (M : Memref sig .scVector .vmem S4096 e) (o : ℕ) (ho : ∀ a, (![o] : Fin 1 → Nat) a + S2048.size a ≤ S4096.size a) :
    Memref sig .scVector .vmem S2048 e :=
  M.slice (Rect.unit (s := S4096) ![o] S2048.size ho) (fun _ => rfl)

/-! ## The steps -/

variable (L : grid0.Coords)

/-- `x`'s row in. -/
def copyX (b : Fin 8) (s : DmaSem sig) : Prog (TpuEff nD τ sig (Elt F) Λ₀ (.scVector (cV L) (jV L))) PUnit := do
  Prog.lift (.enqueueDma (rowW xM L b) (.here (tileW xS b)) (.dma s) ((View.wordExact_bits rfl).reshape _ _) (View.wordExact_bits rfl) ⟨Or.inl rfl, trivial⟩)
  Prog.lift (.waitDma2 s (rowW xM L b) (tileW xS b) ((View.wordExact_bits rfl).reshape _ _) (View.wordExact_bits rfl))

/-- The bias into the accumulator's row. -/
def copyB (b : Fin 8) (s : DmaSem sig) : Prog (TpuEff nD τ sig (Elt F) Λ₀ (.scVector (cV L) (jV L))) PUnit := do
  Prog.lift (.enqueueDma bM (.here (tileW aS b)) (.dma s) (Memref.isWhole_whole main_arg2_scv).wordExact (View.wordExact_bits rfl) ⟨Or.inl rfl, trivial⟩)
  Prog.lift (.waitDma2 s bM (tileW aS b) (Memref.isWhole_whole main_arg2_scv).wordExact (View.wordExact_bits rfl))

/-- The accumulator's row out. -/
def copyO (b : Fin 8) (s : DmaSem sig) : Prog (TpuEff nD τ sig (Elt F) Λ₀ (.scVector (cV L) (jV L))) PUnit := do
  Prog.lift (.enqueueDma (tileW aS b) (.here (rowW oM L b)) (.dma s) (View.wordExact_bits rfl) ((View.wordExact_bits rfl).reshape _ _) ⟨Or.inl rfl, trivial⟩)
  Prog.lift (.waitDma2 s (tileW aS b) (rowW oM L b) (View.wordExact_bits rfl) ((View.wordExact_bits rfl).reshape _ _))

/-- A chunk of 2048 edges started into a buffer half: rows, columns, values, all on the half's semaphore. -/
def fill (s : DmaSem sig) (o : ℕ) (ho : ∀ a, (![o] : Fin 1 → Nat) a + S2048.size a ≤ S4096.size a)
    (off : Fin 1 → Nat) (h : ∀ a, off a + S2048.size a ≤ S167936.size a) : Prog (TpuEff nD τ sig (Elt F) Λ₀ (.scVector (cV L) (jV L))) PUnit := do
  Prog.lift (.enqueueDma (srcW rM off h) (.here (halfW rS o ho)) (.dma s) (View.wordExact_bits rfl) (View.wordExact_bits rfl) ⟨Or.inl rfl, trivial⟩)
  Prog.lift (.enqueueDma (srcW cM off h) (.here (halfW cS o ho)) (.dma s) (View.wordExact_bits rfl) (View.wordExact_bits rfl) ⟨Or.inl rfl, trivial⟩)
  Prog.lift (.enqueueDma (srcW vM off h) (.here (halfW vS o ho)) (.dma s) (View.wordExact_bits rfl) (View.wordExact_bits rfl) ⟨Or.inl rfl, trivial⟩)

/-- The half's three waits. -/
def drain (s : DmaSem sig) (o : ℕ) (ho : ∀ a, (![o] : Fin 1 → Nat) a + S2048.size a ≤ S4096.size a) :
    Prog (TpuEff nD τ sig (Elt F) Λ₀ (.scVector (cV L) (jV L))) PUnit := do
  Prog.lift (.waitDma2 s (srcW rM ![0] inb_S167936_S2048_0) (halfW rS o ho) (View.wordExact_bits rfl) (View.wordExact_bits rfl))
  Prog.lift (.waitDma2 s (srcW cM ![0] inb_S167936_S2048_0) (halfW cS o ho) (View.wordExact_bits rfl) (View.wordExact_bits rfl))
  Prog.lift (.waitDma2 s (srcW vM ![0] inb_S167936_S2048_0) (halfW vS o ho) (View.wordExact_bits rfl) (View.wordExact_bits rfl))

/-- The loop over a half's 128 groups. -/
def run2 : Prog (TpuEff nD τ sig (Elt F) Λ₀ (.scVector (cV L) (jV L))) Unit :=
  Scf.Loop.for k0_t2_loop k0_t2_ok ⟨⟩ (fun t _ => group L (k0_off2 t) (k0_off2_inb t))
def run3 : Prog (TpuEff nD τ sig (Elt F) Λ₀ (.scVector (cV L) (jV L))) Unit :=
  Scf.Loop.for k0_t3_loop k0_t3_ok ⟨⟩ (fun t _ => group L (k0_off4 t) (k0_off4_inb t))
def run4 : Prog (TpuEff nD τ sig (Elt F) Λ₀ (.scVector (cV L) (jV L))) Unit :=
  Scf.Loop.for k0_t4_loop k0_t4_ok ⟨⟩ (fun t _ => group L (k0_off5 t) (k0_off5_inb t))
def run5 : Prog (TpuEff nD τ sig (Elt F) Λ₀ (.scVector (cV L) (jV L))) Unit :=
  Scf.Loop.for k0_t5_loop k0_t5_ok ⟨⟩ (fun t _ => group L (k0_off6 t) (k0_off6_inb t))

/-- A trip of the streaming loop: each half drained, added, and refilled two chunks ahead. -/
def trip (t : Fin k0_t1_loop.trips) : Prog (TpuEff nD τ sig (Elt F) Λ₀ (.scVector (cV L) (jV L))) Unit := do
  drain L cc0_scratch5.sem 0 inb_S4096_S2048_0
  run2 L
  fill L cc0_scratch5.sem 0 inb_S4096_S2048_0 (k0_off3 t (BitVec.ofNat 32 (0 : Fin 2).val)) (k0_off3_inb t 0)
  drain L cc0_scratch6.sem 2048 inb_S4096_S2048_2048
  run3 L
  fill L cc0_scratch6.sem 2048 inb_S4096_S2048_2048 (k0_off3 t (BitVec.ofNat 32 (1 : Fin 2).val)) (k0_off3_inb t 1)
  pure ⟨⟩

theorem t1_body_eq :
    k0_t1_body (F := F) L xM (Memref.isWhole_whole _) vM (Memref.isWhole_whole _) bM (Memref.isWhole_whole _) rM (Memref.isWhole_whole _) cM (Memref.isWhole_whole _) oM (Memref.isWhole_whole _)
    xS (Memref.isWhole_whole _) aS (Memref.isWhole_whole _) rS (Memref.isWhole_whole _) cS (Memref.isWhole_whole _) vS (Memref.isWhole_whole _)
    cc0_scratch5 cc0_scratch6 cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 cc0_scoped17 cc0_scoped18 cc0_scoped19 cc0_scoped20 cc0_scoped21 cc0_scoped22 cc0_scoped23
      = fun t _ => trip L t := by
  funext t _
  unfold k0_t1_body
  rw [k0_part3_eq_skeleton, k0_part4_eq_skeleton]
  unfold k0_part3_skel k0_part4_skel trip run2 run3 fill drain
  simp only [bind_assoc, pure_bind, t2_body_eq, t3_body_eq]
  rfl

/-- The streaming loop. -/
def stream : Prog (TpuEff nD τ sig (Elt F) Λ₀ (.scVector (cV L) (jV L))) Unit :=
  Scf.Loop.for k0_t1_loop k0_t1_ok ⟨⟩ (fun t _ => trip L t)

/-- The whole tile program. -/
def tileProg : Prog (TpuEff nD τ sig (Elt F) Λ₀ (.scVector (cV L) (jV L))) PUnit := do
  copyX L 0 cc0_scoped0.sem
  copyB L 0 cc0_scoped1.sem
  copyX L 1 cc0_scoped2.sem
  copyB L 1 cc0_scoped3.sem
  copyX L 2 cc0_scoped4.sem
  copyB L 2 cc0_scoped5.sem
  copyX L 3 cc0_scoped6.sem
  copyB L 3 cc0_scoped7.sem
  copyX L 4 cc0_scoped8.sem
  copyB L 4 cc0_scoped9.sem
  copyX L 5 cc0_scoped10.sem
  copyB L 5 cc0_scoped11.sem
  copyX L 6 cc0_scoped12.sem
  copyB L 6 cc0_scoped13.sem
  copyX L 7 cc0_scoped14.sem
  copyB L 7 cc0_scoped15.sem
  fill L cc0_scratch5.sem 0 inb_S4096_S2048_0 ![0] inb_S167936_S2048_0
  fill L cc0_scratch6.sem 2048 inb_S4096_S2048_2048 ![2048] inb_S167936_S2048_2048
  stream L
  drain L cc0_scratch5.sem 0 inb_S4096_S2048_0
  run4 L
  drain L cc0_scratch6.sem 2048 inb_S4096_S2048_2048
  run5 L
  copyO L 0 cc0_scoped16.sem
  copyO L 1 cc0_scoped17.sem
  copyO L 2 cc0_scoped18.sem
  copyO L 3 cc0_scoped19.sem
  copyO L 4 cc0_scoped20.sem
  copyO L 5 cc0_scoped21.sem
  copyO L 6 cc0_scoped22.sem
  copyO L 7 cc0_scoped23.sem

theorem spmm_eq :
    cc0_spmm (F := F) L xM (Memref.isWhole_whole _) vM (Memref.isWhole_whole _) bM (Memref.isWhole_whole _) rM (Memref.isWhole_whole _) cM (Memref.isWhole_whole _) oM (Memref.isWhole_whole _)
    xS (Memref.isWhole_whole _) aS (Memref.isWhole_whole _) rS (Memref.isWhole_whole _) cS (Memref.isWhole_whole _) vS (Memref.isWhole_whole _)
    cc0_scratch5 cc0_scratch6 cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 cc0_scoped17 cc0_scoped18 cc0_scoped19 cc0_scoped20 cc0_scoped21 cc0_scoped22 cc0_scoped23
      = tileProg L := by
  rw [cc0_spmm_eq_skeleton]
  unfold cc0_spmm_skel
  rw [k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton]
  unfold k0_part7_skel k0_part8_skel k0_part9_skel k0_part10_skel k0_part11_skel k0_part12_skel k0_part13_skel k0_part14_skel k0_part15_skel k0_part16_skel tileProg copyX copyB copyO fill drain stream run4 run5
  simp only [bind_assoc, pure_bind, t1_body_eq, t4_body_eq, t5_body_eq]
  rfl

end Cert.Proof.Spmm
-- ==== Proof.Half.lean ====
/-
  A buffer half's run: with 2048 edges in the half, the loop over its 128 groups takes the accumulator after `n` edges to
  it after `n + 2048`.
-/
module

public import proofs.«01_k».proof.Proof.GroupRun
public import proofs.«01_k».proof.Proof.Shape

@[expose] public section

noncomputable section

namespace Cert.Proof.Spmm

open Cert.KernelIdeal Cert.KernelIdeal.Gen
open Idealize.ShloMosaic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type}

local notation "𝕄" => MT nD τ sig (HIx 1) (Elt F) ℕ UU ℕ

/-- What a half holding the 2048 edges from `n` reads as. -/
def chunk {T : Type} (w : S167936.Idx → T) (n : ℕ) : S2048.Idx → T := fun y => w (edge (n + (y 0).val))

/-- Lane `y` of group `t` of the half at `o`, as an index of the whole buffer, is an index of the half. -/
theorem group_emb (o : ℕ) (ho : ∀ a, (![o] : Fin 1 → Nat) a + S2048.size a ≤ S4096.size a) (t : ℕ) (ht : t < 128)
    (off : Fin 1 → Nat) (hoff : ∀ a, off a + S16.size a ≤ S4096.size a) (he : off = ![16 * t + o]) (y : S16.Idx) :
    (Rect.unit (s := S4096) off S16.size hoff).emb y
      = (Rect.unit (s := S4096) ![o] S2048.size ho).emb (at1 (n := 2048) (by decide) (16 * t + (y 0).val)) := by
  subst he
  have hy : (y 0).val < 16 := (y 0).isLt
  funext a
  rw [Fin.eq_zero a]
  apply Fin.ext
  show 16 * t + o + 1 * (y 0).val = o + 1 * ((16 * t + (y 0).val) % 2048)
  rw [Nat.mod_eq_of_lt (by omega)]
  omega

/-- A group's words lie in its half. -/
theorem group_set {e : EltTy} (M : Memref sig .scVector .vmem S4096 e) (o : ℕ) (ho : ∀ a, (![o] : Fin 1 → Nat) a + S2048.size a ≤ S4096.size a)
    (t : ℕ) (ht : t < 128) (off : Fin 1 → Nat) (hoff : ∀ a, off a + S16.size a ≤ S4096.size a) (he : off = ![16 * t + o]) :
    (M.access (Rect.unit (s := S4096) off S16.size hoff)).set ⊆ (halfW M o ho).view.set := by
  intro i hi
  obtain ⟨y, -, rfl⟩ := Finset.mem_map.mp hi
  have h : (M.access (Rect.unit (s := S4096) off S16.size hoff)).emb y
      = (halfW M o ho).view.emb (at1 (n := 2048) (by decide) (16 * t + (y 0).val)) :=
    congrArg M.view.emb (group_emb o ho t ht off hoff he y)
  rw [h]
  exact View.emb_mem_set _ _

/-- A group's lane off a half that reads as the edges from `n`. -/
theorem chunk_lane {T : Type} (w : S167936.Idx → T) (f : S4096.Idx → T) (n o : ℕ) (ho : ∀ a, (![o] : Fin 1 → Nat) a + S2048.size a ≤ S4096.size a)
    (hf : ∀ y : S2048.Idx, f ((Rect.unit (s := S4096) ![o] S2048.size ho).emb y) = chunk w n y)
    (t : ℕ) (ht : t < 128) (off : Fin 1 → Nat) (hoff : ∀ a, off a + S16.size a ≤ S4096.size a) (he : off = ![16 * t + o]) (y : S16.Idx) :
    f ((Rect.unit (s := S4096) off S16.size hoff).emb y) = w (edge (n + 16 * t + (y 0).val)) := by
  have hy : (y 0).val < 16 := (y 0).isLt
  rw [group_emb o ho t ht off hoff he y, hf]
  unfold chunk
  rw [at1_val (by decide) _ (by omega), Nat.add_assoc]

variable [FloatOps F]
variable (x : S256x4096.Idx → Elt F .f32) (bias : S4096.Idx → Elt F .f32)
variable (row col : S167936.Idx → BitVec 32) (val : S167936.Idx → Elt F .f32)

/-- The tile's memory while the loop over a half runs: its rows of `x`, the accumulator after `n` edges, and the half's
    three buffers, reading as the 2048 edges from `m`. -/
def atHalf (d : Dev nD) (L : grid0.Coords) (o : ℕ) (ho : ∀ a, (![o] : Fin 1 → Nat) a + S2048.size a ≤ S4096.size a) (m n : ℕ) : sProp 𝕄 :=
  iprop(((xS).view.loc (VT d L) ↦{fullShare} xBuf x (base L)) ∗ ((aS).view.loc (VT d L) ↦{fullShare} accAt x bias row col val (base L) n)
    ∗ (∃ f, ⌜(halfW rS o ho).view.read (Elt F) f = chunk row m⌝ ∗ ((rS).view.loc (VT d L) ↦[(halfW rS o ho).view.set]{fullShare} f))
    ∗ (∃ f, ⌜(halfW cS o ho).view.read (Elt F) f = chunk col m⌝ ∗ ((cS).view.loc (VT d L) ↦[(halfW cS o ho).view.set]{fullShare} f))
    ∗ (∃ f, ⌜(halfW vS o ho).view.read (Elt F) f = chunk val m⌝ ∗ ((vS).view.loc (VT d L) ↦[(halfW vS o ho).view.set]{fullShare} f)))

/-- The half's buffers put together again. -/
theorem regroup (d : Dev nD) (L : grid0.Coords) (o : ℕ) (ho : ∀ a, (![o] : Fin 1 → Nat) a + S2048.size a ≤ S4096.size a) (m n : ℕ)
    (fr fc : S4096.Idx → BitVec 32) (fv : S4096.Idx → Elt F .f32)
    (hr : (halfW rS o ho).view.read (Elt F) fr = chunk row m) (hc : (halfW cS o ho).view.read (Elt F) fc = chunk col m)
    (hv : (halfW vS o ho).view.read (Elt F) fv = chunk val m) :
    (iprop(((xS).view.loc (VT d L) ↦{fullShare} xBuf x (base L)) ∗ ((aS).view.loc (VT d L) ↦{fullShare} accAt x bias row col val (base L) n)
      ∗ ((rS).view.loc (VT d L) ↦[(halfW rS o ho).view.set]{fullShare} fr) ∗ ((cS).view.loc (VT d L) ↦[(halfW cS o ho).view.set]{fullShare} fc)
      ∗ ((vS).view.loc (VT d L) ↦[(halfW vS o ho).view.set]{fullShare} fv)) : sProp 𝕄)
      ⊢ atHalf x bias row col val d L o ho m n := by
  unfold atHalf
  iintro ⟨HX, HA, HR, HC, HV⟩
  isplitl [HX]; · iexact HX
  isplitl [HA]; · iexact HA
  isplitl [HR]; · iexists fr; isplitr; · ipureintro; exact hr
                  iexact HR
  isplitl [HC]; · iexists fc; isplitr; · ipureintro; exact hc
                  iexact HC
  iexists fv; isplitr; · ipureintro; exact hv
  iexact HV

/-- One group of the half. -/
theorem atHalf_group (d : Dev nD) (L : grid0.Coords) (hrow : ∀ e, (row e).toNat < 4096) (hcol : ∀ e, (col e).toNat < 4096)
    (o : ℕ) (ho : ∀ a, (![o] : Fin 1 → Nat) a + S2048.size a ≤ S4096.size a) (n : ℕ)
    (t : ℕ) (ht : t < 128) (off : Fin 1 → Nat) (hoff : ∀ a, off a + S16.size a ≤ S4096.size a) (he : off = ![16 * t + o]) :
    (atHalf x bias row col val d L o ho n (n + 16 * t) : sProp 𝕄)
      ⊢ wp frame (wpE (defs₀ (F := F)) 𝒱₀ (VT d L) none) Set.univ (group L off hoff) fun _ =>
          atHalf x bias row col val d L o ho n (n + 16 * (t + 1)) := by
  have e : n + 16 * (t + 1) = n + 16 * t + 16 := by omega
  rw [e]
  unfold atHalf
  iintro ⟨HX, HA, ⟨%fr, %hr, HR⟩, ⟨%fc, %hc, HC⟩, %fv, %hv, HV⟩
  ihave H := (wp_group x bias row col val d L off hoff (n + 16 * t) hrow hcol _ _ _ fr fc fv
    (group_set rS o ho t ht off hoff he) (group_set cS o ho t ht off hoff he) (group_set vS o ho t ht off hoff he)
    (chunk_lane row fr n o ho (fun y => congrFun hr y) t ht off hoff he)
    (chunk_lane col fc n o ho (fun y => congrFun hc y) t ht off hoff he)
    (chunk_lane val fv n o ho (fun y => congrFun hv y) t ht off hoff he)) $$ [HX HA HR HC HV]
  · isplitl [HX]; · iexact HX
    isplitl [HA]; · iexact HA
    isplitl [HR]; · iexact HR
    isplitl [HC]; · iexact HC
    iexact HV
  iapply (wp_mono frame _ _ (fun _ => regroup x bias row col val d L o ho n (n + 16 * t + 16) fr fc fv hr hc hv)) $$ H

/-- The loop over the half. -/
theorem atHalf_loop (d : Dev nD) (L : grid0.Coords) (hrow : ∀ e, (row e).toNat < 4096) (hcol : ∀ e, (col e).toNat < 4096)
    (o : ℕ) (ho : ∀ a, (![o] : Fin 1 → Nat) a + S2048.size a ≤ S4096.size a) (n : ℕ)
    (l : Scf.Loop 32) (hok : l.OK) (hl : l.trips = 128) (off : Fin l.trips → Fin 1 → Nat) (hoff : ∀ t a, off t a + S16.size a ≤ S4096.size a)
    (he : ∀ t, off t = ![16 * t.val + o]) {Q : Unit → sProp 𝕄} :
    iprop((atHalf x bias row col val d L o ho n n) ∗ (atHalf x bias row col val d L o ho n (n + 2048) -∗ Q ⟨⟩))
      ⊢ wp frame (wpE (defs₀ (F := F)) 𝒱₀ (VT d L) none) Set.univ
          (Scf.Loop.for l hok ⟨⟩ (fun t _ => group L (off t) (hoff t))) Q := by
  have h2 : n + 16 * l.trips = n + 2048 := by rw [hl]
  iintro ⟨H, HQ⟩
  iapply (Scf.wp_for frame (wpE (defs₀ (F := F)) 𝒱₀ (VT d L) none) Set.univ l.lb l.ub l.st hok () (fun t _ => group L (off t) (hoff t))
    (fun k _ => atHalf x bias row col val d L o ho n (n + 16 * k))
    (fun k _ => atHalf_group x bias row col val d L hrow hcol o ho n k.val (lt_of_lt_of_eq k.isLt hl) (off k) (hoff k) (he k)))
  isplitl [H]; · iexact H
  iintro %_ H
  rw [h2]
  iapply HQ; iexact H

end Cert.Proof.Spmm
-- ==== Proof.Edges.lean ====
/-
  A buffer half FILLED and DRAINED. A chunk of 2048 edges is three copies (rows, columns, values) on the half's own
  semaphore: a batch of three equal credits. Between the fill and the drain nothing of the half is held; the third wait
  hands the whole half back, reading as the chunk, together with the three edge arrays' windows.
-/
module

public import proofs.«01_k».proof.Proof.Half

@[expose] public section

noncomputable section

namespace Cert.Proof.Spmm

open Cert.KernelIdeal Cert.KernelIdeal.Gen
open Idealize.ShloMosaic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type}

local notation "𝕄" => MT nD τ sig (HIx 1) (Elt F) ℕ UU ℕ

/-- A window landed: the destination's elements reading as what the source read. -/
def landed {sp sp' : Space} {S : Shape} {e : EltTy} (d : Dev nD) (L : grid0.Coords)
    (src : Memref sig .scVector sp S e) (dst : Memref sig .scVector sp' S e) (q : PosShare TreeShare)
    (fs : Buf (Elt F) (src.view.loc (VT d L))) (g : S.Idx → Elt F e) : sProp 𝕄 :=
  iprop((∃ f : Buf (Elt F) (dst.view.loc (VT d L)), ⌜dst.view.read (Elt F) f = g⌝ ∗ (dst.view.loc (VT d L) ↦[dst.view.set]{fullShare} f))
    ∗ (src.view.loc (VT d L) ↦[src.view.set]{q} fs))

instance landed_storable {sp sp' : Space} {S : Shape} {e : EltTy} (d : Dev nD) (L : grid0.Coords)
    (src : Memref sig .scVector sp S e) (dst : Memref sig .scVector sp' S e) (q : PosShare TreeShare)
    (fs : Buf (Elt F) (src.view.loc (VT d L))) (g : S.Idx → Elt F e) : Storable (upEmb : UEmb _ 𝕄) (landed d L src dst q fs g) := by
  unfold landed; infer_instance

/-- What a copy leaves, restated so. -/
theorem landed_intro {sp sp' : Space} {S : Shape} {e : EltTy} (d : Dev nD) (L : grid0.Coords)
    (src : Memref sig .scVector sp S e) (dst : Memref sig .scVector sp' S e) (q : PosShare TreeShare)
    (fs : Buf (Elt F) (src.view.loc (VT d L))) (fd : Buf (Elt F) (dst.view.loc (VT d L))) (g : S.Idx → Elt F e) (hg : src.view.read (Elt F) fs = g) :
    (iprop((dst.view.loc (VT d L) ↦[dst.view.set]{fullShare} (dst.view.write (Elt F) fd ((ReadAs.same (Val := Elt F)).apply (src.view.read (Elt F) fs)) Finset.univ))
      ∗ (src.view.loc (VT d L) ↦[src.view.set]{q} fs)) : sProp 𝕄) ⊢ landed d L src dst q fs g := by
  unfold landed
  iintro ⟨Hd, Hs⟩
  isplitl [Hd]
  · iexists (dst.view.write (Elt F) fd ((ReadAs.same (Val := Elt F)).apply (src.view.read (Elt F) fs)) Finset.univ)
    isplitr
    · ipureintro
      exact (View.read_write_univ (v := dst.view) fd (src.view.read (Elt F) fs)).trans hg
    iexact Hd
  iexact Hs

/-- The units one window of a half credits. -/
abbrev unitsN (s : DmaSem sig) : ℕ := (halfW rS 0 inb_S4096_S2048_0).view.amount (SemLoc.dma (sig := sig) s)

theorem units_pos (s : DmaSem sig) : 0 < unitsN s := View.amount_pos _ _ (show 0 < S2048.numel by decide)

theorem units_r (s : DmaSem sig) (o : ℕ) (ho) : (halfW rS o ho).view.amount (SemLoc.dma (sig := sig) s) = unitsN s := rfl
theorem units_c (s : DmaSem sig) (o : ℕ) (ho) : (halfW cS o ho).view.amount (SemLoc.dma (sig := sig) s) = unitsN s := rfl
theorem units_v (s : DmaSem sig) (o : ℕ) (ho) : (halfW vS o ho).view.amount (SemLoc.dma (sig := sig) s) = unitsN s := rfl

variable (row col : S167936.Idx → BitVec 32) (val : S167936.Idx → Elt F .f32)
variable (d : Dev nD) (L : grid0.Coords) (s : DmaSem sig) (o : ℕ) (ho : ∀ a, (![o] : Fin 1 → Nat) a + S2048.size a ≤ S4096.size a)
variable (off : Fin 1 → Nat) (h : ∀ a, off a + S2048.size a ≤ S167936.size a) (q : PosShare TreeShare)

/-- A window of an edge array reads as its chunk. -/
theorem read_src {T : Type} (w : S167936.Idx → T) (n : ℕ) (hn : off = ![n]) (y : S2048.Idx) :
    w ((Rect.unit (s := S167936) off S2048.size h).emb y) = chunk w n y := by
  subst hn
  refine congrArg w (at1_eq (n := 167936) (by decide) _ _ ?_).symm
  show n + 1 * (y 0).val = _
  omega

/-- The three deliveries of a fill, in issue order. -/
def deliv (n : ℕ) : Fin 3 → sProp 𝕄
  | ⟨0, _⟩ => landed d L (srcW rM off h) (halfW rS o ho) q row (chunk row n)
  | ⟨1, _⟩ => landed d L (srcW cM off h) (halfW cS o ho) q col (chunk col n)
  | ⟨2, _⟩ => landed d L (srcW vM off h) (halfW vS o ho) q val (chunk val n)

instance deliv_storable (n : ℕ) : ∀ t, Storable (upEmb : UEmb _ 𝕄) (deliv row col val d L o ho off h q n t)
  | ⟨0, _⟩ => by unfold deliv; infer_instance
  | ⟨1, _⟩ => by unfold deliv; infer_instance
  | ⟨2, _⟩ => by unfold deliv; infer_instance

theorem deliv_split (n : ℕ) :
    bigSep Finset.univ (deliv row col val d L o ho off h q n)
      ⊢ iprop(landed d L (srcW rM off h) (halfW rS o ho) q row (chunk row n)
        ∗ landed d L (srcW cM off h) (halfW cS o ho) q col (chunk col n)
        ∗ landed d L (srcW vM off h) (halfW vS o ho) q val (chunk val n)) := by
  rw [Idealize.SL.BI.bigSep_univ_eq_bigSepL [0, 1, 2] (by decide) (by decide) _]
  exact .rfl

/-- Copy 0 of a fill delivers its part. -/
theorem delivers_r (n : ℕ) (hn : off = ![n]) (fd : S4096.Idx → BitVec 32) :
    (iprop(((halfW rS o ho).view.loc (VT d L) ↦[(halfW rS o ho).view.set]{fullShare} ((halfW rS o ho).view.write (Elt F) fd ((ReadAs.same (Val := Elt F)).apply ((srcW rM off h).view.read (Elt F) row)) Finset.univ))
      ∗ ((srcW rM off h).view.loc (VT d L) ↦[(srcW rM off h).view.set]{q} row)) : sProp 𝕄) ⊢ deliv row col val d L o ho off h q n ⟨0, by decide⟩ :=
  landed_intro d L (srcW rM off h) (halfW rS o ho) q row fd (chunk row n) (funext (read_src off h row n hn))

/-- Copy 1 of a fill delivers its part. -/
theorem delivers_c (n : ℕ) (hn : off = ![n]) (fd : S4096.Idx → BitVec 32) :
    (iprop(((halfW cS o ho).view.loc (VT d L) ↦[(halfW cS o ho).view.set]{fullShare} ((halfW cS o ho).view.write (Elt F) fd ((ReadAs.same (Val := Elt F)).apply ((srcW cM off h).view.read (Elt F) col)) Finset.univ))
      ∗ ((srcW cM off h).view.loc (VT d L) ↦[(srcW cM off h).view.set]{q} col)) : sProp 𝕄) ⊢ deliv row col val d L o ho off h q n ⟨1, by decide⟩ :=
  landed_intro d L (srcW cM off h) (halfW cS o ho) q col fd (chunk col n) (funext (read_src off h col n hn))

/-- Copy 2 of a fill delivers its part. -/
theorem delivers_v (n : ℕ) (hn : off = ![n]) (fd : S4096.Idx → Elt F .f32) :
    (iprop(((halfW vS o ho).view.loc (VT d L) ↦[(halfW vS o ho).view.set]{fullShare} ((halfW vS o ho).view.write (Elt F) fd ((ReadAs.same (Val := Elt F)).apply ((srcW vM off h).view.read (Elt F) val)) Finset.univ))
      ∗ ((srcW vM off h).view.loc (VT d L) ↦[(srcW vM off h).view.set]{q} val)) : sProp 𝕄) ⊢ deliv row col val d L o ho off h q n ⟨2, by decide⟩ :=
  landed_intro d L (srcW vM off h) (halfW vS o ho) q val fd (chunk val n) (funext (read_src off h val n hn))

/-- The three edge arrays held at share `q`. -/
def edges : sProp 𝕄 :=
  iprop(((rM).view.loc (VT d L) ↦{q} row) ∗ ((cM).view.loc (VT d L) ↦{q} col) ∗ ((vM).view.loc (VT d L) ↦{q} val))

/-- The edge arrays but for a window. -/
def edgesRest : sProp 𝕄 :=
  iprop(((rM).view.loc (VT d L) ↦[Finset.univ \ (srcW rM off h).view.set]{q} row)
    ∗ ((cM).view.loc (VT d L) ↦[Finset.univ \ (srcW cM off h).view.set]{q} col)
    ∗ ((vM).view.loc (VT d L) ↦[Finset.univ \ (srcW vM off h).view.set]{q} val))

/-- A half's three buffers at any contents. -/
def halfAny : sProp 𝕄 :=
  iprop((∃ f, (rS).view.loc (VT d L) ↦[(halfW rS o ho).view.set]{fullShare} f) ∗ (∃ f, (cS).view.loc (VT d L) ↦[(halfW cS o ho).view.set]{fullShare} f)
    ∗ (∃ f, (vS).view.loc (VT d L) ↦[(halfW vS o ho).view.set]{fullShare} f))

/-- A half's three buffers reading as the 2048 edges from `n`. -/
def halfFull (n : ℕ) : sProp 𝕄 :=
  iprop((∃ f, ⌜(halfW rS o ho).view.read (Elt F) f = chunk row n⌝ ∗ ((rS).view.loc (VT d L) ↦[(halfW rS o ho).view.set]{fullShare} f))
    ∗ (∃ f, ⌜(halfW cS o ho).view.read (Elt F) f = chunk col n⌝ ∗ ((cS).view.loc (VT d L) ↦[(halfW cS o ho).view.set]{fullShare} f))
    ∗ (∃ f, ⌜(halfW vS o ho).view.read (Elt F) f = chunk val n⌝ ∗ ((vS).view.loc (VT d L) ↦[(halfW vS o ho).view.set]{fullShare} f)))

/-- A half in flight: the batch of its three copies, and the edge arrays but for the windows being read. -/
def flightAt (n : ℕ) : sProp 𝕄 :=
  iprop(Transfers.Batch (countersEmb (U := UU)) (VT d L) (.dma s) (none : HIx 1) (unitsN s) (deliv row col val d L o ho off h q n) 3 0
    ∗ edgesRest row col val d L off h q)

def flight (n : ℕ) : sProp 𝕄 :=
  iprop(∃ (off : Fin 1 → Nat) (h : ∀ a, off a + S2048.size a ≤ S167936.size a), flightAt row col val d L s o ho off h q n)

variable [FloatOps F]

theorem wp_fill (n : ℕ) (hn : off = ![n]) (Q : PUnit → sProp 𝕄) :
    iprop(halfAny (F := F) d L o ho ∗ edges row col val d L q ∗ semVal (VT d L, SemLoc.dma s) 0 ∗ (flight row col val d L s o ho q n -∗ Q ⟨⟩))
      ⊢ wp frame (wpE (defs₀ (F := F)) 𝒱₀ (VT d L) none) Set.univ (fill L s o ho off h) Q := by
  unfold halfAny edges
  iintro ⟨⟨⟨%fr, HR⟩, ⟨%fc, HC⟩, %fv, HV⟩, ⟨HrM, HcM, HvM⟩, Hs, Hk⟩
  ihave HrM := (pointsTo_split_subset (Finset.subset_univ (srcW rM off h).view.set)).1 $$ HrM
  icases HrM with ⟨HrM, HrR⟩
  ihave HcM := (pointsTo_split_subset (Finset.subset_univ (srcW cM off h).view.set)).1 $$ HcM
  icases HcM with ⟨HcM, HcR⟩
  ihave HvM := (pointsTo_split_subset (Finset.subset_univ (srcW vM off h).view.set)).1 $$ HvM
  icases HvM with ⟨HvM, HvR⟩
  imod (Transfers.batch_alloc' (Lvl := ℕ) (countersEmb (U := UU)) (VT d L) (none : HIx 1) (unitsN s) (deliv row col val d L o ho off h q n) (sm := .dma s) (E := Set.univ)) $$ Hs with HB
  unfold fill
  rw [wp_bind]
  have hb := fun (k) (QQ : PUnit → sProp 𝕄) => Transfers.wp_dmaBatch (countersEmb (U := UU)) 𝒱₀ (VT d L) none (defs := defs₀ (F := F)) (Q := QQ) (k := k)
    (src := srcW rM off h) (via := ReadAs.same) (dst := halfW rS o ho) (sm := .dma s)
    (q := q) (fs := row) (fd := fr) (hsrc := View.wordExact_bits rfl) (hdst := View.wordExact_bits rfl) (hsem := ⟨Or.inl rfl, trivial⟩) (none : HIx 1) (unitsN s)
    (units_r s o ho) subset_rfl (D := deliv row col val d L o ho off h q n) (j := 0) (u := 0) (by decide) (Nat.zero_le _)
    (delivers_r row col val d L o ho off h q n hn fr)
  iapply (hb Prog.ret _) $$ [HrM HR HB]
  · isplitl [HrM]; · iexact HrM
    isplitl [HR]; · iexact HR
    iexact HB
  iintro HB
  rw [wp_ret]; imodintro
  rw [wp_bind]
  have hb := fun (k) (QQ : PUnit → sProp 𝕄) => Transfers.wp_dmaBatch (countersEmb (U := UU)) 𝒱₀ (VT d L) none (defs := defs₀ (F := F)) (Q := QQ) (k := k)
    (src := srcW cM off h) (via := ReadAs.same) (dst := halfW cS o ho) (sm := .dma s)
    (q := q) (fs := col) (fd := fc) (hsrc := View.wordExact_bits rfl) (hdst := View.wordExact_bits rfl) (hsem := ⟨Or.inl rfl, trivial⟩) (none : HIx 1) (unitsN s)
    (units_c s o ho) subset_rfl (D := deliv row col val d L o ho off h q n) (j := 1) (u := 0) (by decide) (Nat.zero_le _)
    (delivers_c row col val d L o ho off h q n hn fc)
  iapply (hb Prog.ret _) $$ [HcM HC HB]
  · isplitl [HcM]; · iexact HcM
    isplitl [HC]; · iexact HC
    iexact HB
  iintro HB
  rw [wp_ret]; imodintro
  have hb := fun (k) (QQ : PUnit → sProp 𝕄) => Transfers.wp_dmaBatch (countersEmb (U := UU)) 𝒱₀ (VT d L) none (defs := defs₀ (F := F)) (Q := QQ) (k := k)
    (src := srcW vM off h) (via := ReadAs.same) (dst := halfW vS o ho) (sm := .dma s)
    (q := q) (fs := val) (fd := fv) (hsrc := View.wordExact_bits rfl) (hdst := View.wordExact_bits rfl) (hsem := ⟨Or.inl rfl, trivial⟩) (none : HIx 1) (unitsN s)
    (units_v s o ho) subset_rfl (D := deliv row col val d L o ho off h q n) (j := 2) (u := 0) (by decide) (Nat.zero_le _)
    (delivers_v row col val d L o ho off h q n hn fv)
  iapply (hb Prog.ret _) $$ [HvM HV HB]
  · isplitl [HvM]; · iexact HvM
    isplitl [HV]; · iexact HV
    iexact HB
  iintro HB
  rw [wp_ret]; imodintro
  iapply Hk
  unfold flight flightAt edgesRest
  iexists off, h
  isplitl [HB]; · iexact HB
  isplitl [HrR]; · iexact HrR
  isplitl [HcR]; · iexact HcR
  iexact HvR

/-- The waits a body may record beyond those it came with. -/
def okW (W W' : Waits sig (HIx 1)) : Prop := ∀ p ∈ W', p ∈ W ∨ p.2 = none ∨ p.2 = some 0

theorem okW_refl (W : Waits sig (HIx 1)) : okW W W := fun _ hp => Or.inl hp

theorem okW_insert (W W' : Waits sig (HIx 1)) (sm : SemLoc sig) (hW : okW W W') : okW W (insert (sm, none) W') := by
  intro p hp
  rcases Finset.mem_insert.mp hp with rfl | hp
  · exact Or.inr (Or.inl rfl)
  · exact hW p hp

/-- What the thread owes, with its waits recorded. -/
def owing (O : CellTallies nD τ sig (HIx 1)) (W : Waits sig (HIx 1)) : sProp 𝕄 :=
  iprop(∃ W', ⌜okW W W'⌝ ∗ owes (VT d L) O W')

theorem wp_drain (n : ℕ) (O : CellTallies nD τ sig (HIx 1)) (W : Waits sig (HIx 1)) (Q : PUnit → sProp 𝕄) :
    iprop(Transfers.MayWaits (VT d L) (none : HIx 1) O ∗ flight row col val d L s o ho q n ∗ owing (F := F) d L O W
      ∗ (iprop(halfFull row col val d L o ho n ∗ edges row col val d L q ∗ semVal (VT d L, SemLoc.dma s) 0 ∗ owing (F := F) d L O W) -∗ Q ⟨⟩))
      ⊢ wp frame (wpE (defs₀ (F := F)) 𝒱₀ (VT d L) none) Set.univ (drain L s o ho) Q := by
  unfold flight flightAt owing
  iintro ⟨#Hmw, ⟨%off, %h, HB, HRest⟩, ⟨%W₁, %hW, HO⟩, Hk⟩
  ihave #Hm := (Transfers.MayWaits.elim (SemLoc.dma s)) $$ Hmw
  unfold drain
  rw [wp_bind]
  iapply (Transfers.wp_waitBatchO (countersEmb (U := UU)) 𝒱₀ (VT d L) none (srcw := srcW rM ![0] inb_S167936_S2048_0) (dstw := halfW rS o ho)
    (hsrc := View.wordExact_bits rfl) (hdst := View.wordExact_bits rfl) (none : HIx 1) (N := unitsN s) rfl
    (D := deliv row col val d L o ho off h q n) (u := 0) (by have := units_pos s; omega)) $$ [HB HO]
  · isplitl [HB]; · iexact HB
    isplitl [HO]; · iexact HO
    iexact Hm
  iintro ⟨HB, HO⟩
  rw [wp_ret]; imodintro
  rw [wp_bind]
  iapply (Transfers.wp_waitBatchO (countersEmb (U := UU)) 𝒱₀ (VT d L) none (srcw := srcW cM ![0] inb_S167936_S2048_0) (dstw := halfW cS o ho)
    (hsrc := View.wordExact_bits rfl) (hdst := View.wordExact_bits rfl) (none : HIx 1) (N := unitsN s) rfl
    (D := deliv row col val d L o ho off h q n) (u := 0 + unitsN s) (by have := units_pos s; omega)) $$ [HB HO]
  · isplitl [HB]; · iexact HB
    isplitl [HO]; · iexact HO
    iexact Hm
  iintro ⟨HB, HO⟩
  rw [wp_ret]; imodintro
  iapply (Transfers.wp_waitBatchLastO (countersEmb (U := UU)) 𝒱₀ (VT d L) none (srcw := srcW vM ![0] inb_S167936_S2048_0) (dstw := halfW vS o ho)
    (hsrc := View.wordExact_bits rfl) (hdst := View.wordExact_bits rfl) (none : HIx 1) (N := unitsN s) rfl (units_pos s)
    (D := deliv row col val d L o ho off h q n) (u := 0 + unitsN s + unitsN s) (by omega)) $$ [HB HO]
  · isplitl [HB]; · iexact HB
    isplitl [HO]; · iexact HO
    iexact Hm
  iintro ⟨HD, Hs, HO⟩
  rw [wp_ret]; imodintro
  ihave HD := (deliv_split row col val d L o ho off h q n) $$ HD
  unfold landed edgesRest
  icases HD with ⟨⟨HR, HrM⟩, ⟨HC, HcM⟩, HV, HvM⟩
  icases HRest with ⟨HrR, HcR, HvR⟩
  iapply Hk
  isplitl [HR HC HV]
  · unfold halfFull
    isplitl [HR]; · iexact HR
    isplitl [HC]; · iexact HC
    iexact HV
  isplitl [HrM HrR HcM HcR HvM HvR]
  · unfold edges
    isplitl [HrM HrR]
    · iapply (pointsTo_split_subset (Finset.subset_univ (srcW rM off h).view.set)).2
      isplitl [HrM]; · iexact HrM
      iexact HrR
    isplitl [HcM HcR]
    · iapply (pointsTo_split_subset (Finset.subset_univ (srcW cM off h).view.set)).2
      isplitl [HcM]; · iexact HcM
      iexact HcR
    · iapply (pointsTo_split_subset (Finset.subset_univ (srcW vM off h).view.set)).2
      isplitl [HvM]; · iexact HvM
      iexact HvR
  isplitl [Hs]; · iexact Hs
  iexists (insert (SemLoc.dma s, none) (insert (SemLoc.dma s, none) (insert (SemLoc.dma s, none) W₁)))
  isplitr
  · ipureintro
    exact okW_insert _ _ _ (okW_insert _ _ _ (okW_insert _ _ _ hW))
  iexact HO

end Cert.Proof.Spmm
-- ==== Proof.Copies.lean ====
/-
  The synchronous copies: a batch row of `x` in, the bias into an accumulator row, an accumulator row out. Each buffer
  is held whole with a count of the rows written so far (`rowsOf`, `outRows`); one copy adds one row.
-/
module

public import proofs.«01_k».proof.Proof.Edges

@[expose] public section

noncomputable section

namespace Cert.Proof.Spmm

open Cert.KernelIdeal Cert.KernelIdeal.Gen
open Idealize.ShloMosaic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

local notation "𝕄" => MT nD τ sig (HIx 1) (Elt F) ℕ UU ℕ

/-! ## Where the windows lie -/

theorem tile_at (b : Fin 8) (y : S4096.Idx) : (((Rect.unit (s := S32768) ![4096 * b.val] S4096.size (inb_row b)).emb y) 0).val = 4096 * b.val + (y 0).val := by
  show 4096 * b.val + 1 * (y 0).val = _
  omega

theorem row_at (L : grid0.Coords) (b : Fin 8) (y : S4096.Idx) :
    (Rect.unit (s := S256x4096) (k0_off1 L (BitVec.ofNat 32 b.val)) S1x4096.size (k0_off1_inb L b)).emb
      (Shape.reshapeEquiv (s := S1x4096) (s' := S4096) squeezes_S1x4096_S4096.numel_eq y) = at2 (base L + b.val) (y 0).val := by
  rw [show Shape.reshapeEquiv (s := S1x4096) (s' := S4096) squeezes_S1x4096_S4096.numel_eq y = Fin.cons ⟨0, Nat.one_pos⟩ y from
    Shape.reshapeEquiv_cons_one _ y]
  refine (at2_eq _ _ _ ?_ ?_).symm
  · show k0_off1 L (BitVec.ofNat 32 b.val) 0 + 1 * 0 = _
    rw [k0_off1_eq]; rfl
  · show k0_off1 L (BitVec.ofNat 32 b.val) 1 + 1 * (y 0).val = _
    rw [k0_off1_eq]
    show 0 + 1 * (y 0).val = _
    omega

/-! ## A copy and its wait -/

/-- The copy starts on its own idle semaphore and is waited for at once: the destination holds what the source reads. -/
theorem wp_copy {sp sp' : Space} {S : Shape} {e : EltTy} (hS : 0 < S.numel) (d : Dev nD) (L : grid0.Coords) (s : DmaSem sig)
    (src : Memref sig .scVector sp S e) (dst : Memref sig .scVector sp' S e)
    (h1 : src.view.WordExact) (h2 : dst.view.WordExact) (h3 : DmaTarget.Typed (nD := nD) (τ := τ) (p := (VT d L).2) sp (SemLoc.dma s) (.here dst))
    (h4 : src.view.WordExact) (h5 : dst.view.WordExact)
    (Ss : Finset (Idx (src.view.loc (VT d L)))) (hSs : src.view.set ⊆ Ss) (Sd : Finset (Idx (dst.view.loc (VT d L)))) (hSd : dst.view.set ⊆ Sd)
    (q : PosShare TreeShare) (fs : Buf (Elt F) (src.view.loc (VT d L))) (fd : Buf (Elt F) (dst.view.loc (VT d L)))
    (O : CellTallies nD τ sig (HIx 1)) (W : Waits sig (HIx 1)) (Q : PUnit → sProp 𝕄) :
    iprop(Transfers.MayWaits (VT d L) (none : HIx 1) O ∗ (src.view.loc (VT d L) ↦[Ss]{q} fs) ∗ (dst.view.loc (VT d L) ↦[Sd]{fullShare} fd)
      ∗ semVal (VT d L, SemLoc.dma s) 0 ∗ owing (F := F) d L O W
      ∗ (iprop((src.view.loc (VT d L) ↦[Ss]{q} fs)
          ∗ (dst.view.loc (VT d L) ↦[Sd]{fullShare} (dst.view.write (Elt F) fd (src.view.read (Elt F) fs) Finset.univ))
          ∗ semVal (VT d L, SemLoc.dma s) 0 ∗ owing (F := F) d L O W) -∗ Q ⟨⟩))
      ⊢ wp frame (wpE (defs₀ (F := F)) 𝒱₀ (VT d L) none) Set.univ
          ((Prog.lift (.enqueueDma src (.here dst) (.dma s) h1 h2 h3) >>= fun _ => Prog.lift (.waitDma2 s src dst h4 h5) :
            Prog (TpuEff nD τ sig (Elt F) Λ₀ (.scVector (cV L) (jV L))) PUnit)) Q := by
  have hb := fun (k : PUnit → Prog (TpuEff nD τ sig (Elt F) Λ₀ (.scVector (cV L) (jV L))) PUnit) (QQ : PUnit → sProp 𝕄) =>
    Transfers.wp_dmaLocal (countersEmb (U := UU)) 𝒱₀ (VT d L) none (defs := defs₀ (F := F)) (src := src) (via := ReadAs.same) (dst := dst) (sm := SemLoc.dma s)
      (hsrc := h1) (hdst := h2) (hsem := h3) (k := k) (Q := QQ) (q := q) (fs := fs) (Sd := Sd) (fd := fd)
      (none : HIx 1) (dst.view.amount (SemLoc.dma s)) rfl (View.amount_pos _ _ hS) hSd
  unfold owing
  iintro ⟨#Hmw, Hs, Hd, Hv, ⟨%W₁, %hW, HO⟩, Hk⟩
  ihave #Hm := (Transfers.MayWaits.elim (SemLoc.dma s)) $$ Hmw
  ihave Hs := (pointsTo_split_subset hSs).1 $$ Hs
  icases Hs with ⟨Hs, Hr⟩
  rw [wp_bind]
  iapply (hb Prog.ret _) $$ [Hs Hd Hv]
  · isplitl [Hs]; · iexact Hs
    isplitl [Hd]; · iexact Hd
    iexact Hv
  iintro HF
  rw [wp_ret]; imodintro
  iapply (Transfers.wp_waitLocalO (countersEmb (U := UU)) 𝒱₀ (VT d L) none (srcw := src) (dstw := dst) (hsrc := h4) (hdst := h5) (none : HIx 1)
    (N := dst.view.amount (SemLoc.dma s)) rfl) $$ [HF HO]
  · isplitl [HF]; · iexact HF
    isplitl [HO]; · iexact HO
    iexact Hm
  iintro ⟨⟨Hd, Hs⟩, Hv, HO⟩
  rw [wp_ret]; imodintro
  iapply Hk
  isplitl [Hs Hr]
  · iapply (pointsTo_split_subset hSs).2
    isplitl [Hs]; · iexact Hs
    iexact Hr
  isplitl [Hd]; · iexact Hd
  isplitl [Hv]; · iexact Hv
  iexists (insert (SemLoc.dma s, none) W₁)
  isplitr
  · ipureintro; exact okW_insert _ _ _ hW
  iexact HO

/-! ## The scratch rows -/

/-- The first `n` of a scratch buffer's eight rows are `g`'s. -/
def upTo (g f : S32768.Idx → Elt F .f32) (n : ℕ) : Prop := ∀ i : S32768.Idx, (i 0).val < 4096 * n → f i = g i

omit [FloatOps F] in
theorem upTo_zero (g f : S32768.Idx → Elt F .f32) : upTo g f 0 := fun i h => absurd h (by omega)

omit [FloatOps F] in
theorem upTo_eight (g f : S32768.Idx → Elt F .f32) (h : upTo g f 8) : f = g := by
  funext i
  have : (i 0).val < 32768 := (i 0).isLt
  exact h i (by omega)

omit [FloatOps F] in
/-- Row `b` rewritten with `w`: one more row. -/
theorem upTo_step (g f f' : S32768.Idx → Elt F .f32) (b : Fin 8) (w : S4096.Idx → Elt F .f32) (hw : ∀ y : S4096.Idx, w y = g ((Rect.unit (s := S32768) ![4096 * b.val] S4096.size (inb_row b)).emb y))
    (hin : ∀ y, f' ((Rect.unit (s := S32768) ![4096 * b.val] S4096.size (inb_row b)).emb y) = w y)
    (hout : ∀ i, (∀ y, (Rect.unit (s := S32768) ![4096 * b.val] S4096.size (inb_row b)).emb y ≠ i) → f' i = f i)
    (h : upTo g f b.val) : upTo g f' (b.val + 1) := by
  intro i hi
  by_cases hlt : (i 0).val < 4096 * b.val
  · rw [hout i (fun y e => by have := tile_at b y; rw [e] at this; omega)]
    exact h i hlt
  · have e : (Rect.unit (s := S32768) ![4096 * b.val] S4096.size (inb_row b)).emb (at1 (n := 4096) (by decide) ((i 0).val - 4096 * b.val)) = i := by
      funext a
      rw [Fin.eq_zero a]
      apply Fin.ext
      rw [tile_at, at1_val _ _ (by omega)]
      omega
    rw [← e, hin, hw]

/-- `x`'s row `b` in. -/
theorem wp_copyX (x : S256x4096.Idx → Elt F .f32) (d : Dev nD) (L : grid0.Coords) (b : Fin 8) (s : DmaSem sig) (q : PosShare TreeShare)
    (O : CellTallies nD τ sig (HIx 1)) (W : Waits sig (HIx 1)) (Q : PUnit → sProp 𝕄) (n n' : ℕ) (hn : n = b.val) (hn' : n' = b.val + 1) :
    iprop(Transfers.MayWaits (VT d L) (none : HIx 1) O ∗ (xM.view.loc (VT d L) ↦{q} x)
      ∗ (∃ f : S32768.Idx → Elt F .f32, ⌜upTo (xBuf x (base L)) f n⌝ ∗ (xS.view.loc (VT d L) ↦{fullShare} f))
      ∗ semVal (VT d L, SemLoc.dma s) 0 ∗ owing (F := F) d L O W
      ∗ (iprop((xM.view.loc (VT d L) ↦{q} x)
          ∗ (∃ f : S32768.Idx → Elt F .f32, ⌜upTo (xBuf x (base L)) f n'⌝ ∗ (xS.view.loc (VT d L) ↦{fullShare} f))
          ∗ semVal (VT d L, SemLoc.dma s) 0 ∗ owing (F := F) d L O W) -∗ Q ⟨⟩))
      ⊢ wp frame (wpE (defs₀ (F := F)) 𝒱₀ (VT d L) none) Set.univ (copyX L b s) Q := by
  subst hn hn'
  iintro ⟨#Hmw, Hx, ⟨%f, %hf, Hd⟩, Hv, HO, Hk⟩
  unfold copyX
  iapply (wp_copy (show 0 < S4096.numel by decide) d L s (rowW xM L b) (tileW xS b) _ _ _ _ _ Finset.univ (Finset.subset_univ _) Finset.univ (Finset.subset_univ _)
    q x f O W Q)
  isplitr; · iexact Hmw
  isplitl [Hx]; · iexact Hx
  isplitl [Hd]; · iexact Hd
  isplitl [Hv]; · iexact Hv
  isplitl [HO]; · iexact HO
  iintro ⟨Hx, Hd, Hv, HO⟩
  iapply Hk
  isplitl [Hx]; · iexact Hx
  isplitl [Hd]
  · iexists ((tileW xS b).view.write (Elt F) f ((rowW xM L b).view.read (Elt F) x) Finset.univ)
    isplitr
    · ipureintro
      refine upTo_step _ f _ b ((rowW xM L b).view.read (Elt F) x) (fun y => ?_) (fun y => ?_) (fun i hi => ?_) hf
      · refine (congrArg x (row_at L b y)).trans ?_
        show _ = x (at2 _ _)
        rw [tile_at]
        have : (y 0).val < 4096 := (y 0).isLt
        rw [show (4096 * b.val + (y 0).val) / 4096 = b.val by omega, show (4096 * b.val + (y 0).val) % 4096 = (y 0).val by omega]
      · exact View.write_emb_of_mem (v := (tileW xS b).view) f _ (Finset.mem_univ y)
      · refine View.write_of_not_mem (v := (tileW xS b).view) f _ Finset.univ ?_
        rw [View.setOn_univ]
        intro hm
        obtain ⟨y, -, hy⟩ := Finset.mem_map.mp hm
        exact hi y hy
    iexact Hd
  isplitl [Hv]; · iexact Hv
  iexact HO

variable (x : S256x4096.Idx → Elt F .f32) (bias : S4096.Idx → Elt F .f32)
variable (row col : S167936.Idx → BitVec 32) (val : S167936.Idx → Elt F .f32)

/-- The bias into the accumulator's row `b`. -/
theorem wp_copyB (d : Dev nD) (L : grid0.Coords) (b : Fin 8) (s : DmaSem sig) (q : PosShare TreeShare)
    (O : CellTallies nD τ sig (HIx 1)) (W : Waits sig (HIx 1)) (Q : PUnit → sProp 𝕄) (n n' : ℕ) (hn : n = b.val) (hn' : n' = b.val + 1) :
    iprop(Transfers.MayWaits (VT d L) (none : HIx 1) O ∗ (bM.view.loc (VT d L) ↦{q} bias)
      ∗ (∃ f : S32768.Idx → Elt F .f32, ⌜upTo (accAt x bias row col val (base L) 0) f n⌝ ∗ (aS.view.loc (VT d L) ↦{fullShare} f))
      ∗ semVal (VT d L, SemLoc.dma s) 0 ∗ owing (F := F) d L O W
      ∗ (iprop((bM.view.loc (VT d L) ↦{q} bias)
          ∗ (∃ f : S32768.Idx → Elt F .f32, ⌜upTo (accAt x bias row col val (base L) 0) f n'⌝ ∗ (aS.view.loc (VT d L) ↦{fullShare} f))
          ∗ semVal (VT d L, SemLoc.dma s) 0 ∗ owing (F := F) d L O W) -∗ Q ⟨⟩))
      ⊢ wp frame (wpE (defs₀ (F := F)) 𝒱₀ (VT d L) none) Set.univ (copyB L b s) Q := by
  subst hn hn'
  iintro ⟨#Hmw, Hx, ⟨%f, %hf, Hd⟩, Hv, HO, Hk⟩
  unfold copyB
  iapply (wp_copy (show 0 < S4096.numel by decide) d L s bM (tileW aS b) _ _ _ _ _ Finset.univ (Finset.subset_univ _) Finset.univ (Finset.subset_univ _)
    q bias f O W Q)
  isplitr; · iexact Hmw
  isplitl [Hx]; · iexact Hx
  isplitl [Hd]; · iexact Hd
  isplitl [Hv]; · iexact Hv
  isplitl [HO]; · iexact HO
  iintro ⟨Hx, Hd, Hv, HO⟩
  iapply Hk
  isplitl [Hx]; · iexact Hx
  isplitl [Hd]
  · iexists ((tileW aS b).view.write (Elt F) f (bM.view.read (Elt F) bias) Finset.univ)
    isplitr
    · ipureintro
      refine upTo_step _ f _ b (bM.view.read (Elt F) bias) (fun y => ?_) (fun y => ?_) (fun i hi => ?_) hf
      · show bias y = bias (at1 _ _)
        refine congrArg bias (at1_eq _ _ _ ?_).symm
        rw [tile_at]
        have : (y 0).val < 4096 := (y 0).isLt
        omega
      · exact View.write_emb_of_mem (v := (tileW aS b).view) f _ (Finset.mem_univ y)
      · refine View.write_of_not_mem (v := (tileW aS b).view) f _ Finset.univ ?_
        rw [View.setOn_univ]
        intro hm
        obtain ⟨y, -, hy⟩ := Finset.mem_map.mp hm
        exact hi y hy
    iexact Hd
  isplitl [Hv]; · iexact Hv
  iexact HO

/-! ## The rows out -/

/-- The kernel's result: every element after all the edges. -/
def outAt : S256x4096.Idx → Elt F .f32 := fun j => elemAt x bias row col val (j 0).val (j 1).val 167936

/-- The eight batch rows of a tile. -/
def slab (L : grid0.Coords) : Finset S256x4096.Idx := Finset.univ.filter (fun i => base L ≤ (i 0).val ∧ (i 0).val < base L + 8)

/-- The first `n` of a tile's rows are `g`'s. -/
def outTo (L : grid0.Coords) (g f : S256x4096.Idx → Elt F .f32) (n : ℕ) : Prop :=
  ∀ i : S256x4096.Idx, base L ≤ (i 0).val → (i 0).val < base L + n → f i = g i

omit [FloatOps F] in
theorem outTo_zero (L : grid0.Coords) (g f : S256x4096.Idx → Elt F .f32) : outTo L g f 0 := fun i h h' => absurd h' (by omega)

theorem base_le (L : grid0.Coords) : base L + 8 ≤ 256 := by
  have h0 : (L 0).val < 2 := (L 0).isLt
  have h1 : (L 1).val < 16 := (L 1).isLt
  show 16 * (L 1).val + 8 * (L 0).val + 8 ≤ 256
  omega

theorem rowO_emb (L : grid0.Coords) (b : Fin 8) (y : S4096.Idx) : (rowW oM L b).view.emb y = at2 (base L + b.val) (y 0).val := row_at L b y

theorem rowO_sub (L : grid0.Coords) (b : Fin 8) : (rowW oM L b).view.set ⊆ slab L := by
  intro i hi
  obtain ⟨y, -, hy⟩ := Finset.mem_map.mp hi
  have hy : at2 (base L + b.val) (y 0).val = i := (rowO_emb L b y).symm.trans hy
  have hb := base_le L
  have := b.isLt
  have e : (i 0).val = base L + b.val := by
    rw [← hy]; show (base L + b.val) % 256 = _; omega
  unfold slab
  rw [Finset.mem_filter]
  exact ⟨Finset.mem_univ _, by omega, by omega⟩

/-- The accumulator's row `b` out. -/
theorem wp_copyO (d : Dev nD) (L : grid0.Coords) (b : Fin 8) (s : DmaSem sig)
    (O : CellTallies nD τ sig (HIx 1)) (W : Waits sig (HIx 1)) (Q : PUnit → sProp 𝕄) (n n' : ℕ) (hn : n = b.val) (hn' : n' = b.val + 1) :
    iprop(Transfers.MayWaits (VT d L) (none : HIx 1) O ∗ (aS.view.loc (VT d L) ↦{fullShare} accAt x bias row col val (base L) 167936)
      ∗ (∃ f : S256x4096.Idx → Elt F .f32, ⌜outTo L (outAt x bias row col val) f n⌝ ∗ (oM.view.loc (VT d L) ↦[slab L]{fullShare} f))
      ∗ semVal (VT d L, SemLoc.dma s) 0 ∗ owing (F := F) d L O W
      ∗ (iprop((aS.view.loc (VT d L) ↦{fullShare} accAt x bias row col val (base L) 167936)
          ∗ (∃ f : S256x4096.Idx → Elt F .f32, ⌜outTo L (outAt x bias row col val) f n'⌝ ∗ (oM.view.loc (VT d L) ↦[slab L]{fullShare} f))
          ∗ semVal (VT d L, SemLoc.dma s) 0 ∗ owing (F := F) d L O W) -∗ Q ⟨⟩))
      ⊢ wp frame (wpE (defs₀ (F := F)) 𝒱₀ (VT d L) none) Set.univ (copyO L b s) Q := by
  subst hn hn'
  iintro ⟨#Hmw, Hx, ⟨%f, %hf, Hd⟩, Hv, HO, Hk⟩
  unfold copyO
  iapply (wp_copy (show 0 < S4096.numel by decide) d L s (tileW aS b) (rowW oM L b) _ _ _ _ _ Finset.univ (Finset.subset_univ _) (slab L) (rowO_sub L b)
    fullShare (accAt x bias row col val (base L) 167936) f O W Q)
  isplitr; · iexact Hmw
  isplitl [Hx]; · iexact Hx
  isplitl [Hd]; · iexact Hd
  isplitl [Hv]; · iexact Hv
  isplitl [HO]; · iexact HO
  iintro ⟨Hx, Hd, Hv, HO⟩
  iapply Hk
  isplitl [Hx]; · iexact Hx
  isplitl [Hd]
  · iexists ((rowW oM L b).view.write (Elt F) f ((tileW aS b).view.read (Elt F) (accAt x bias row col val (base L) 167936)) Finset.univ)
    isplitr
    · ipureintro
      intro i h1 h2
      have hb := base_le L
      have hb' := b.isLt
      by_cases hlt : (i 0).val < base L + b.val
      · refine (View.write_of_not_mem (v := (rowW oM L b).view) f _ Finset.univ ?_).trans (hf i h1 hlt)
        rw [View.setOn_univ]
        intro hm
        obtain ⟨y, -, hy⟩ := Finset.mem_map.mp hm
        have hy : at2 (base L + b.val) (y 0).val = i := (rowO_emb L b y).symm.trans hy
        have e : (i 0).val = base L + b.val := by
          rw [← hy]; show (base L + b.val) % 256 = _; omega
        omega
      · have hi1 : (i 1).val < 4096 := (i 1).isLt
        have e : (rowW oM L b).view.emb (at1 (n := 4096) (by decide) (i 1).val) = i := by
          refine (rowO_emb L b _).trans (at2_eq i _ _ ?_ ?_)
          · omega
          · exact (at1_val _ _ hi1 _).symm
        rw [← e]
        refine (View.write_emb_of_mem (v := (rowW oM L b).view) f _ (Finset.mem_univ _)).trans ?_
        rw [e]
        show elemAt x bias row col val _ _ 167936 = elemAt x bias row col val _ _ 167936
        have ht : (((tileW aS b).view.emb (at1 (n := 4096) (by decide) (i 1).val)) 0).val = 4096 * b.val + (i 1).val :=
          (tile_at b _).trans (congrArg (4096 * b.val + ·) (at1_val _ _ hi1 0))
        rw [ht, show (4096 * b.val + (i 1).val) / 4096 = b.val by omega, show (4096 * b.val + (i 1).val) % 4096 = (i 1).val by omega,
          show base L + b.val = (i 0).val by omega]
    iexact Hd
  isplitl [Hv]; · iexact Hv
  iexact HO

end Cert.Proof.Spmm
-- ==== Proof.Stream.lean ====
/-
  The edges streamed: forty trips, each adding one chunk off either half and starting the chunk two ahead; then the last
  two chunks. All 167936 padded edges are added to the tile's accumulator.
-/
module

public import proofs.«01_k».proof.Proof.Edges

@[expose] public section

noncomputable section

namespace Cert.Proof.Spmm

open Cert.KernelIdeal Cert.KernelIdeal.Gen
open Idealize.ShloMosaic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type}

local notation "𝕄" => MT nD τ sig (HIx 1) (Elt F) ℕ UU ℕ

variable [FloatOps F]
variable (x : S256x4096.Idx → Elt F .f32) (bias : S4096.Idx → Elt F .f32)
variable (row col : S167936.Idx → BitVec 32) (val : S167936.Idx → Elt F .f32)
variable (d : Dev nD) (L : grid0.Coords)

/-- The tile's rows of `x`, and its accumulator after `n` edges. -/
def acc (n : ℕ) : sProp 𝕄 :=
  iprop(((xS).view.loc (VT d L) ↦{fullShare} xBuf x (base L)) ∗ ((aS).view.loc (VT d L) ↦{fullShare} accAt x bias row col val (base L) n))

theorem atHalf_intro (o : ℕ) (ho : ∀ a, (![o] : Fin 1 → Nat) a + S2048.size a ≤ S4096.size a) (m n : ℕ) :
    iprop(acc x bias row col val d L n ∗ halfFull row col val d L o ho m) ⊢ (atHalf x bias row col val d L o ho m n : sProp 𝕄) := by
  unfold acc halfFull atHalf
  iintro ⟨⟨HX, HA⟩, HR, HC, HV⟩
  isplitl [HX]; · iexact HX
  isplitl [HA]; · iexact HA
  isplitl [HR]; · iexact HR
  isplitl [HC]; · iexact HC
  iexact HV

theorem atHalf_elim (o : ℕ) (ho : ∀ a, (![o] : Fin 1 → Nat) a + S2048.size a ≤ S4096.size a) (m n : ℕ) :
    (atHalf x bias row col val d L o ho m n : sProp 𝕄) ⊢ iprop(acc x bias row col val d L n ∗ halfAny (F := F) d L o ho) := by
  unfold acc halfAny atHalf
  iintro ⟨HX, HA, ⟨%fr, -, HR⟩, ⟨%fc, -, HC⟩, %fv, -, HV⟩
  isplitl [HX HA]
  · isplitl [HX]; · iexact HX
    iexact HA
  isplitl [HR]; · iexists fr; iexact HR
  isplitl [HC]; · iexists fc; iexact HC
  iexists fv; iexact HV

variable (hrow : ∀ e, (row e).toNat < 4096) (hcol : ∀ e, (col e).toNat < 4096)
variable (O : CellTallies nD τ sig (HIx 1)) (W : Waits sig (HIx 1))

include hrow hcol in
/-- Drain a half and add its chunk. -/
theorem wp_half (s : DmaSem sig) (o : ℕ) (ho : ∀ a, (![o] : Fin 1 → Nat) a + S2048.size a ≤ S4096.size a) (q : PosShare TreeShare) (n : ℕ)
    (l : Scf.Loop 32) (hok : l.OK) (hl : l.trips = 128) (off : Fin l.trips → Fin 1 → Nat) (hoff : ∀ t a, off t a + S16.size a ≤ S4096.size a)
    (he : ∀ t, off t = ![16 * t.val + o]) (Q : Unit → sProp 𝕄) :
    iprop(Transfers.MayWaits (VT d L) (none : HIx 1) O ∗ flight row col val d L s o ho q n ∗ acc x bias row col val d L n ∗ owing (F := F) d L O W
      ∗ (iprop(halfAny (F := F) d L o ho ∗ edges row col val d L q ∗ semVal (VT d L, SemLoc.dma s) 0 ∗ acc x bias row col val d L (n + 2048)
          ∗ owing (F := F) d L O W) -∗ Q ⟨⟩))
      ⊢ wp frame (wpE (defs₀ (F := F)) 𝒱₀ (VT d L) none) Set.univ
          (drain L s o ho >>= fun _ => Scf.Loop.for l hok ⟨⟩ (fun t _ => group L (off t) (hoff t))) Q := by
  iintro ⟨#Hmw, HF, HA, HO, Hk⟩
  rw [wp_bind]
  iapply (wp_drain row col val d L s o ho q n O W)
  isplitr; · iexact Hmw
  isplitl [HF]; · iexact HF
  isplitl [HO]; · iexact HO
  iintro ⟨HH, HE, Hs, HO⟩
  iapply (atHalf_loop x bias row col val d L hrow hcol o ho n l hok hl off hoff he)
  isplitl [HA HH]
  · iapply (atHalf_intro x bias row col val d L o ho n n)
    isplitl [HA]; · iexact HA
    iexact HH
  iintro HH
  ihave HH := (atHalf_elim x bias row col val d L o ho n (n + 2048)) $$ HH
  icases HH with ⟨HA, HH⟩
  iapply Hk
  isplitl [HH]; · iexact HH
  isplitl [HE]; · iexact HE
  isplitl [Hs]; · iexact Hs
  isplitl [HA]; · iexact HA
  iexact HO

/-- Before trip `t`: `4096·t` edges added, the next two chunks in flight. -/
def streaming (q₀ q₁ : PosShare TreeShare) (n : ℕ) : sProp 𝕄 :=
  iprop(Transfers.MayWaits (VT d L) (none : HIx 1) O ∗ acc x bias row col val d L n
    ∗ flight row col val d L cc0_scratch5.sem 0 inb_S4096_S2048_0 q₀ n
    ∗ flight row col val d L cc0_scratch6.sem 2048 inb_S4096_S2048_2048 q₁ (n + 2048)
    ∗ owing (F := F) d L O W)

include hrow hcol in
theorem wp_trip (q₀ q₁ : PosShare TreeShare) (t : Fin k0_t1_loop.trips) :
    (streaming x bias row col val d L O W q₀ q₁ (4096 * t.val) : sProp 𝕄)
      ⊢ wp frame (wpE (defs₀ (F := F)) 𝒱₀ (VT d L) none) Set.univ (trip L t) fun _ =>
          streaming x bias row col val d L O W q₀ q₁ (4096 * (t.val + 1)) := by
  have e1 : 4096 * t.val + 2048 + 2048 = 4096 * (t.val + 1) := by omega
  have h0 : k0_off3 t (BitVec.ofNat 32 (0 : Fin 2).val) = ![4096 * (t.val + 1)] := by
    rw [k0_off3_eq t 0]; exact congrArg (fun n => ![n]) (by show 4096 * t.val + 2048 * _ + 4096 = _; first | omega | (simp; omega))
  have h1 : k0_off3 t (BitVec.ofNat 32 (1 : Fin 2).val) = ![4096 * (t.val + 1) + 2048] := by
    rw [k0_off3_eq t 1]; exact congrArg (fun n => ![n]) (by show 4096 * t.val + 2048 * _ + 4096 = _; first | omega | (simp; omega))
  unfold streaming
  iintro ⟨#Hmw, HA, HF0, HF1, HO⟩
  unfold trip run2 run3
  rw [← bind_assoc, wp_bind]
  iapply (wp_half x bias row col val d L hrow hcol O W cc0_scratch5.sem 0 inb_S4096_S2048_0 q₀ (4096 * t.val) k0_t2_loop k0_t2_ok (by decide +kernel)
    k0_off2 k0_off2_inb (fun t => k0_off2_eq t))
  isplitr; · iexact Hmw
  isplitl [HF0]; · iexact HF0
  isplitl [HA]; · iexact HA
  isplitl [HO]; · iexact HO
  iintro ⟨HH, HE, Hs, HA, HO⟩
  rw [wp_bind]
  iapply (wp_fill row col val d L cc0_scratch5.sem 0 inb_S4096_S2048_0 _ _ q₀ (4096 * (t.val + 1)) h0)
  isplitl [HH]; · iexact HH
  isplitl [HE]; · iexact HE
  isplitl [Hs]; · iexact Hs
  iintro HF0
  rw [← bind_assoc, wp_bind]
  iapply (wp_half x bias row col val d L hrow hcol O W cc0_scratch6.sem 2048 inb_S4096_S2048_2048 q₁ (4096 * t.val + 2048) k0_t3_loop k0_t3_ok (by decide +kernel)
    k0_off4 k0_off4_inb (fun t => k0_off4_eq t))
  isplitr; · iexact Hmw
  isplitl [HF1]; · iexact HF1
  isplitl [HA]; · iexact HA
  isplitl [HO]; · iexact HO
  iintro ⟨HH, HE, Hs, HA, HO⟩
  rw [wp_bind]
  iapply (wp_fill row col val d L cc0_scratch6.sem 2048 inb_S4096_S2048_2048 _ _ q₁ (4096 * (t.val + 1) + 2048) h1)
  isplitl [HH]; · iexact HH
  isplitl [HE]; · iexact HE
  isplitl [Hs]; · iexact Hs
  iintro HF1
  rw [wp_pure]; imodintro
  isplitr; · iexact Hmw
  isplitl [HA]; · rw [e1]; iexact HA
  isplitl [HF0]; · iexact HF0
  isplitl [HF1]; · iexact HF1
  iexact HO

/-- The edges' part of the tile program. -/
def edgesProg : Prog (TpuEff nD τ sig (Elt F) Λ₀ (.scVector (cV L) (jV L))) Unit := do
  fill L cc0_scratch5.sem 0 inb_S4096_S2048_0 ![0] inb_S167936_S2048_0
  fill L cc0_scratch6.sem 2048 inb_S4096_S2048_2048 ![2048] inb_S167936_S2048_2048
  stream L
  drain L cc0_scratch5.sem 0 inb_S4096_S2048_0
  run4 L
  drain L cc0_scratch6.sem 2048 inb_S4096_S2048_2048
  run5 L

include hrow hcol in
theorem wp_edges (q₀ q₁ : PosShare TreeShare) (Q : Unit → sProp 𝕄) :
    iprop(Transfers.MayWaits (VT d L) (none : HIx 1) O ∗ acc x bias row col val d L 0
      ∗ halfAny (F := F) d L 0 inb_S4096_S2048_0 ∗ edges row col val d L q₀ ∗ semVal (VT d L, SemLoc.dma cc0_scratch5.sem) 0
      ∗ halfAny (F := F) d L 2048 inb_S4096_S2048_2048 ∗ edges row col val d L q₁ ∗ semVal (VT d L, SemLoc.dma cc0_scratch6.sem) 0
      ∗ owing (F := F) d L O W
      ∗ (iprop(acc x bias row col val d L 167936
          ∗ halfAny (F := F) d L 0 inb_S4096_S2048_0 ∗ edges row col val d L q₀ ∗ semVal (VT d L, SemLoc.dma cc0_scratch5.sem) 0
          ∗ halfAny (F := F) d L 2048 inb_S4096_S2048_2048 ∗ edges row col val d L q₁ ∗ semVal (VT d L, SemLoc.dma cc0_scratch6.sem) 0
          ∗ owing (F := F) d L O W) -∗ Q ⟨⟩))
      ⊢ wp frame (wpE (defs₀ (F := F)) 𝒱₀ (VT d L) none) Set.univ (edgesProg L) Q := by
  have ht : k0_t1_loop.trips = 40 := by decide +kernel
  iintro ⟨#Hmw, HA, HH0, HE0, Hs0, HH1, HE1, Hs1, HO, Hk⟩
  unfold edgesProg
  rw [wp_bind]
  iapply (wp_fill row col val d L cc0_scratch5.sem 0 inb_S4096_S2048_0 _ _ q₀ 0 rfl)
  isplitl [HH0]; · iexact HH0
  isplitl [HE0]; · iexact HE0
  isplitl [Hs0]; · iexact Hs0
  iintro HF0
  rw [wp_bind]
  iapply (wp_fill row col val d L cc0_scratch6.sem 2048 inb_S4096_S2048_2048 _ _ q₁ 2048 rfl)
  isplitl [HH1]; · iexact HH1
  isplitl [HE1]; · iexact HE1
  isplitl [Hs1]; · iexact Hs1
  iintro HF1
  rw [wp_bind]
  unfold stream
  iapply (Scf.wp_for frame (wpE (defs₀ (F := F)) 𝒱₀ (VT d L) none) Set.univ k0_t1_loop.lb k0_t1_loop.ub k0_t1_loop.st k0_t1_ok () (fun t _ => trip L t)
    (fun k _ => streaming x bias row col val d L O W q₀ q₁ (4096 * k))
    (fun k _ => wp_trip x bias row col val d L hrow hcol O W q₀ q₁ k))
  isplitl [HA HF0 HF1 HO]
  · unfold streaming
    isplitr; · iexact Hmw
    isplitl [HA]; · iexact HA
    isplitl [HF0]; · iexact HF0
    isplitl [HF1]; · iexact HF1
    iexact HO
  iintro %_ HS
  ihave HS := (show (streaming x bias row col val d L O W q₀ q₁ (4096 * Scf.trips k0_t1_loop.lb k0_t1_loop.ub k0_t1_loop.st) : sProp 𝕄)
      ⊢ streaming x bias row col val d L O W q₀ q₁ 163840 from by
    rw [show Scf.trips k0_t1_loop.lb k0_t1_loop.ub k0_t1_loop.st = 40 from ht]) $$ HS
  unfold streaming
  icases HS with ⟨-, HA, HF0, HF1, HO⟩
  rw [← bind_assoc, wp_bind]
  unfold run4 run5
  iapply (wp_half x bias row col val d L hrow hcol O W cc0_scratch5.sem 0 inb_S4096_S2048_0 q₀ 163840 k0_t4_loop k0_t4_ok (by decide +kernel)
    k0_off5 k0_off5_inb (fun t => k0_off5_eq t))
  isplitr; · iexact Hmw
  isplitl [HF0]; · iexact HF0
  isplitl [HA]; · iexact HA
  isplitl [HO]; · iexact HO
  iintro ⟨HH0, HE0, Hs0, HA, HO⟩
  iapply (wp_half x bias row col val d L hrow hcol O W cc0_scratch6.sem 2048 inb_S4096_S2048_2048 q₁ 165888 k0_t5_loop k0_t5_ok (by decide +kernel)
    k0_off6 k0_off6_inb (fun t => k0_off6_eq t))
  isplitr; · iexact Hmw
  isplitl [HF1]; · iexact HF1
  isplitl [HA]; · iexact HA
  isplitl [HO]; · iexact HO
  iintro ⟨HH1, HE1, Hs1, HA, HO⟩
  iapply Hk
  isplitl [HA]; · iexact HA
  isplitl [HH0]; · iexact HH0
  isplitl [HE0]; · iexact HE0
  isplitl [Hs0]; · iexact Hs0
  isplitl [HH1]; · iexact HH1
  isplitl [HE1]; · iexact HE1
  isplitl [Hs1]; · iexact Hs1
  iexact HO

end Cert.Proof.Spmm
-- ==== Proof.Tile.lean ====
/-
  One tile's task, whole: the eight rows of `x` and the bias copied in, the edges streamed through, the eight
  accumulator rows copied out. From any contents of its scratch buffers and of its slab of the result, the slab ends
  holding `outAt` and everything else is handed back.
-/
module

public import proofs.«01_k».proof.Proof.Copies
public import proofs.«01_k».proof.Proof.Stream

@[expose] public section

noncomputable section

namespace Cert.Proof.Spmm

open Cert.KernelIdeal Cert.KernelIdeal.Gen
open Idealize.ShloMosaic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

local notation "𝕄" => MT nD τ sig (HIx 1) (Elt F) ℕ UU ℕ

/-! ## The tile's semaphores -/

/-- The kernel's DMA semaphore `k`. -/
abbrev csem (k : ℕ) (hk : k < 26 := by decide) : DmaSem sig := ⟨k, hk⟩

/-- It idle, on a tile. -/
abbrev idle (d : Dev nD) (L : grid0.Coords) (k : ℕ) (hk : k < 26 := by decide) : sProp 𝕄 := semVal (VT d L, SemLoc.dma (csem k hk)) 0

/-- The copies in have sixteen, -/
abbrev idleIn (d : Dev nD) (L : grid0.Coords) : sProp 𝕄 :=
  iprop(idle (F := F) d L 2 ∗ idle (F := F) d L 3 ∗ idle (F := F) d L 4 ∗ idle (F := F) d L 5 ∗ idle (F := F) d L 6 ∗ idle (F := F) d L 7 ∗ idle (F := F) d L 8 ∗ idle (F := F) d L 9 ∗ idle (F := F) d L 10 ∗ idle (F := F) d L 11 ∗ idle (F := F) d L 12 ∗ idle (F := F) d L 13 ∗ idle (F := F) d L 14 ∗ idle (F := F) d L 15 ∗ idle (F := F) d L 16 ∗ idle (F := F) d L 17)
/-- the copies out eight. -/
abbrev idleOut (d : Dev nD) (L : grid0.Coords) : sProp 𝕄 :=
  iprop(idle (F := F) d L 18 ∗ idle (F := F) d L 19 ∗ idle (F := F) d L 20 ∗ idle (F := F) d L 21 ∗ idle (F := F) d L 22 ∗ idle (F := F) d L 23 ∗ idle (F := F) d L 24 ∗ idle (F := F) d L 25)

/-! ## An edge buffer as its two halves -/

omit [FloatOps F] in
theorem half_set {e : EltTy} (o : ℕ) (ho : ∀ a, (![o] : Fin 1 → Nat) a + S2048.size a ≤ S4096.size a) (i : S4096.Idx) :
    i ∈ (Rect.unit (s := S4096) ![o] S2048.size ho).set ↔ o ≤ (i 0).val ∧ (i 0).val < o + 2048 := by
  rw [Rect.mem_set_unit]
  constructor
  · intro h; exact h 0
  · intro h a; rw [Fin.eq_zero a]; exact h

theorem half_rest : Finset.univ \ (Rect.unit (s := S4096) ![0] S2048.size inb_S4096_S2048_0).set
    = (Rect.unit (s := S4096) ![2048] S2048.size inb_S4096_S2048_2048).set := by
  ext i
  rw [Finset.mem_sdiff, half_set (e := .f32) 0, half_set (e := .f32) 2048]
  have : (i 0).val < 4096 := (i 0).isLt
  simp only [Finset.mem_univ, true_and]
  omega

variable (d : Dev nD) (L : grid0.Coords)

omit [FloatOps F] in
theorem halves_r : (iprop(∃ f, rS.view.loc (VT d L) ↦{fullShare} f) : sProp 𝕄)
    ⊢ iprop((∃ f, rS.view.loc (VT d L) ↦[(halfW rS 0 inb_S4096_S2048_0).view.set]{fullShare} f)
        ∗ (∃ f, rS.view.loc (VT d L) ↦[(halfW rS 2048 inb_S4096_S2048_2048).view.set]{fullShare} f)) := by
  have e0 : (halfW rS 0 inb_S4096_S2048_0).view.set = (Rect.unit (s := S4096) ![0] S2048.size inb_S4096_S2048_0).set := (View.set_slice _ _).trans Finset.map_refl
  have e1 : (halfW rS 2048 inb_S4096_S2048_2048).view.set = (Rect.unit (s := S4096) ![2048] S2048.size inb_S4096_S2048_2048).set := (View.set_slice _ _).trans Finset.map_refl
  rw [e0, e1, ← half_rest]
  iintro ⟨%f, H⟩
  ihave H := (pointsTo_split_subset (Finset.subset_univ _)).1 $$ H
  icases H with ⟨H0, H1⟩
  isplitl [H0]
  · iexists f; iexact H0
  iexists f; iexact H1

omit [FloatOps F] in
theorem join_r : (iprop((∃ f, rS.view.loc (VT d L) ↦[(halfW rS 0 inb_S4096_S2048_0).view.set]{fullShare} f)
        ∗ (∃ f, rS.view.loc (VT d L) ↦[(halfW rS 2048 inb_S4096_S2048_2048).view.set]{fullShare} f)) : sProp 𝕄)
    ⊢ iprop(∃ f, rS.view.loc (VT d L) ↦{fullShare} f) := by
  have e0 : (halfW rS 0 inb_S4096_S2048_0).view.set = (Rect.unit (s := S4096) ![0] S2048.size inb_S4096_S2048_0).set := (View.set_slice _ _).trans Finset.map_refl
  have e1 : (halfW rS 2048 inb_S4096_S2048_2048).view.set = (Rect.unit (s := S4096) ![2048] S2048.size inb_S4096_S2048_2048).set := (View.set_slice _ _).trans Finset.map_refl
  rw [e0, e1, ← half_rest]
  iintro ⟨⟨%f, H0⟩, ⟨%g, H1⟩⟩
  ihave H := (pointsTo_join_subset (Finset.subset_univ _)) $$ [H0 H1]
  · isplitl [H0]; · iexact H0
    iexact H1
  iexists _
  iexact H

omit [FloatOps F] in
theorem halves_c : (iprop(∃ f, cS.view.loc (VT d L) ↦{fullShare} f) : sProp 𝕄)
    ⊢ iprop((∃ f, cS.view.loc (VT d L) ↦[(halfW cS 0 inb_S4096_S2048_0).view.set]{fullShare} f)
        ∗ (∃ f, cS.view.loc (VT d L) ↦[(halfW cS 2048 inb_S4096_S2048_2048).view.set]{fullShare} f)) := by
  have e0 : (halfW cS 0 inb_S4096_S2048_0).view.set = (Rect.unit (s := S4096) ![0] S2048.size inb_S4096_S2048_0).set := (View.set_slice _ _).trans Finset.map_refl
  have e1 : (halfW cS 2048 inb_S4096_S2048_2048).view.set = (Rect.unit (s := S4096) ![2048] S2048.size inb_S4096_S2048_2048).set := (View.set_slice _ _).trans Finset.map_refl
  rw [e0, e1, ← half_rest]
  iintro ⟨%f, H⟩
  ihave H := (pointsTo_split_subset (Finset.subset_univ _)).1 $$ H
  icases H with ⟨H0, H1⟩
  isplitl [H0]
  · iexists f; iexact H0
  iexists f; iexact H1

omit [FloatOps F] in
theorem join_c : (iprop((∃ f, cS.view.loc (VT d L) ↦[(halfW cS 0 inb_S4096_S2048_0).view.set]{fullShare} f)
        ∗ (∃ f, cS.view.loc (VT d L) ↦[(halfW cS 2048 inb_S4096_S2048_2048).view.set]{fullShare} f)) : sProp 𝕄)
    ⊢ iprop(∃ f, cS.view.loc (VT d L) ↦{fullShare} f) := by
  have e0 : (halfW cS 0 inb_S4096_S2048_0).view.set = (Rect.unit (s := S4096) ![0] S2048.size inb_S4096_S2048_0).set := (View.set_slice _ _).trans Finset.map_refl
  have e1 : (halfW cS 2048 inb_S4096_S2048_2048).view.set = (Rect.unit (s := S4096) ![2048] S2048.size inb_S4096_S2048_2048).set := (View.set_slice _ _).trans Finset.map_refl
  rw [e0, e1, ← half_rest]
  iintro ⟨⟨%f, H0⟩, ⟨%g, H1⟩⟩
  ihave H := (pointsTo_join_subset (Finset.subset_univ _)) $$ [H0 H1]
  · isplitl [H0]; · iexact H0
    iexact H1
  iexists _
  iexact H

omit [FloatOps F] in
theorem halves_v : (iprop(∃ f, vS.view.loc (VT d L) ↦{fullShare} f) : sProp 𝕄)
    ⊢ iprop((∃ f, vS.view.loc (VT d L) ↦[(halfW vS 0 inb_S4096_S2048_0).view.set]{fullShare} f)
        ∗ (∃ f, vS.view.loc (VT d L) ↦[(halfW vS 2048 inb_S4096_S2048_2048).view.set]{fullShare} f)) := by
  have e0 : (halfW vS 0 inb_S4096_S2048_0).view.set = (Rect.unit (s := S4096) ![0] S2048.size inb_S4096_S2048_0).set := (View.set_slice _ _).trans Finset.map_refl
  have e1 : (halfW vS 2048 inb_S4096_S2048_2048).view.set = (Rect.unit (s := S4096) ![2048] S2048.size inb_S4096_S2048_2048).set := (View.set_slice _ _).trans Finset.map_refl
  rw [e0, e1, ← half_rest]
  iintro ⟨%f, H⟩
  ihave H := (pointsTo_split_subset (Finset.subset_univ _)).1 $$ H
  icases H with ⟨H0, H1⟩
  isplitl [H0]
  · iexists f; iexact H0
  iexists f; iexact H1

omit [FloatOps F] in
theorem join_v : (iprop((∃ f, vS.view.loc (VT d L) ↦[(halfW vS 0 inb_S4096_S2048_0).view.set]{fullShare} f)
        ∗ (∃ f, vS.view.loc (VT d L) ↦[(halfW vS 2048 inb_S4096_S2048_2048).view.set]{fullShare} f)) : sProp 𝕄)
    ⊢ iprop(∃ f, vS.view.loc (VT d L) ↦{fullShare} f) := by
  have e0 : (halfW vS 0 inb_S4096_S2048_0).view.set = (Rect.unit (s := S4096) ![0] S2048.size inb_S4096_S2048_0).set := (View.set_slice _ _).trans Finset.map_refl
  have e1 : (halfW vS 2048 inb_S4096_S2048_2048).view.set = (Rect.unit (s := S4096) ![2048] S2048.size inb_S4096_S2048_2048).set := (View.set_slice _ _).trans Finset.map_refl
  rw [e0, e1, ← half_rest]
  iintro ⟨⟨%f, H0⟩, ⟨%g, H1⟩⟩
  ihave H := (pointsTo_join_subset (Finset.subset_univ _)) $$ [H0 H1]
  · isplitl [H0]; · iexact H0
    iexact H1
  iexists _
  iexact H

/-! ## The copies in -/

/-- The copies in. -/
def insProg : Prog (TpuEff nD τ sig (Elt F) Λ₀ (.scVector (cV L) (jV L))) PUnit := do
  copyX L 0 cc0_scoped0.sem
  copyB L 0 cc0_scoped1.sem
  copyX L 1 cc0_scoped2.sem
  copyB L 1 cc0_scoped3.sem
  copyX L 2 cc0_scoped4.sem
  copyB L 2 cc0_scoped5.sem
  copyX L 3 cc0_scoped6.sem
  copyB L 3 cc0_scoped7.sem
  copyX L 4 cc0_scoped8.sem
  copyB L 4 cc0_scoped9.sem
  copyX L 5 cc0_scoped10.sem
  copyB L 5 cc0_scoped11.sem
  copyX L 6 cc0_scoped12.sem
  copyB L 6 cc0_scoped13.sem
  copyX L 7 cc0_scoped14.sem
  copyB L 7 cc0_scoped15.sem

/-- The copies out. -/
def outsProg : Prog (TpuEff nD τ sig (Elt F) Λ₀ (.scVector (cV L) (jV L))) PUnit := do
  copyO L 0 cc0_scoped16.sem
  copyO L 1 cc0_scoped17.sem
  copyO L 2 cc0_scoped18.sem
  copyO L 3 cc0_scoped19.sem
  copyO L 4 cc0_scoped20.sem
  copyO L 5 cc0_scoped21.sem
  copyO L 6 cc0_scoped22.sem
  copyO L 7 cc0_scoped23.sem

theorem tileProg_eq : tileProg (F := F) L = (insProg L >>= fun _ => edgesProg L >>= fun _ => outsProg L) := by
  unfold tileProg insProg edgesProg outsProg
  simp only [bind_assoc]

variable (x : S256x4096.Idx → Elt F .f32) (bias : S4096.Idx → Elt F .f32)
variable (row col : S167936.Idx → BitVec 32) (val : S167936.Idx → Elt F .f32)
variable (O : CellTallies nD τ sig (HIx 1)) (W : Waits sig (HIx 1))

theorem wp_ins (q q' : PosShare TreeShare) (Q : PUnit → sProp 𝕄) :
    iprop(Transfers.MayWaits (VT d L) (none : HIx 1) O ∗ (xM.view.loc (VT d L) ↦{q} x) ∗ (bM.view.loc (VT d L) ↦{q'} bias)
      ∗ (∃ f, xS.view.loc (VT d L) ↦{fullShare} f) ∗ (∃ f, aS.view.loc (VT d L) ↦{fullShare} f)
      ∗ idleIn (F := F) d L ∗ owing (F := F) d L O W
      ∗ (iprop((xM.view.loc (VT d L) ↦{q} x) ∗ (bM.view.loc (VT d L) ↦{q'} bias) ∗ acc x bias row col val d L 0
          ∗ idleIn (F := F) d L ∗ owing (F := F) d L O W) -∗ Q ⟨⟩))
      ⊢ wp frame (wpE (defs₀ (F := F)) 𝒱₀ (VT d L) none) Set.univ (insProg L) Q := by
  iintro ⟨#Hmw, Hx, Hb, ⟨%fx, HX⟩, ⟨%fa, HA⟩, ⟨Hs2, Hs3, Hs4, Hs5, Hs6, Hs7, Hs8, Hs9, Hs10, Hs11, Hs12, Hs13, Hs14, Hs15, Hs16, Hs17⟩, HO, Hk⟩
  ihave HX := (show (xS.view.loc (VT d L) ↦{fullShare} fx : sProp 𝕄)
      ⊢ iprop(∃ f : S32768.Idx → Elt F .f32, ⌜upTo (xBuf x (base L)) f 0⌝ ∗ (xS.view.loc (VT d L) ↦{fullShare} f)) from by
    iintro H; iexists fx; isplitr
    · ipureintro; exact upTo_zero _ _
    iexact H) $$ HX
  ihave HA := (show (aS.view.loc (VT d L) ↦{fullShare} fa : sProp 𝕄)
      ⊢ iprop(∃ f : S32768.Idx → Elt F .f32, ⌜upTo (accAt x bias row col val (base L) 0) f 0⌝ ∗ (aS.view.loc (VT d L) ↦{fullShare} f)) from by
    iintro H; iexists fa; isplitr
    · ipureintro; exact upTo_zero _ _
    iexact H) $$ HA
  unfold insProg
  rw [wp_bind]
  iapply (wp_copyX x d L 0 _ q O W _ 0 1 rfl rfl)
  isplitr; · iexact Hmw
  isplitl [Hx]; · iexact Hx
  isplitl [HX]; · iexact HX
  isplitl [Hs2]; · iexact Hs2
  isplitl [HO]; · iexact HO
  iintro ⟨Hx, HX, Hs2, HO⟩
  rw [wp_bind]
  iapply (wp_copyB x bias row col val d L 0 _ q' O W _ 0 1 rfl rfl)
  isplitr; · iexact Hmw
  isplitl [Hb]; · iexact Hb
  isplitl [HA]; · iexact HA
  isplitl [Hs3]; · iexact Hs3
  isplitl [HO]; · iexact HO
  iintro ⟨Hb, HA, Hs3, HO⟩
  rw [wp_bind]
  iapply (wp_copyX x d L 1 _ q O W _ 1 2 rfl rfl)
  isplitr; · iexact Hmw
  isplitl [Hx]; · iexact Hx
  isplitl [HX]; · iexact HX
  isplitl [Hs4]; · iexact Hs4
  isplitl [HO]; · iexact HO
  iintro ⟨Hx, HX, Hs4, HO⟩
  rw [wp_bind]
  iapply (wp_copyB x bias row col val d L 1 _ q' O W _ 1 2 rfl rfl)
  isplitr; · iexact Hmw
  isplitl [Hb]; · iexact Hb
  isplitl [HA]; · iexact HA
  isplitl [Hs5]; · iexact Hs5
  isplitl [HO]; · iexact HO
  iintro ⟨Hb, HA, Hs5, HO⟩
  rw [wp_bind]
  iapply (wp_copyX x d L 2 _ q O W _ 2 3 rfl rfl)
  isplitr; · iexact Hmw
  isplitl [Hx]; · iexact Hx
  isplitl [HX]; · iexact HX
  isplitl [Hs6]; · iexact Hs6
  isplitl [HO]; · iexact HO
  iintro ⟨Hx, HX, Hs6, HO⟩
  rw [wp_bind]
  iapply (wp_copyB x bias row col val d L 2 _ q' O W _ 2 3 rfl rfl)
  isplitr; · iexact Hmw
  isplitl [Hb]; · iexact Hb
  isplitl [HA]; · iexact HA
  isplitl [Hs7]; · iexact Hs7
  isplitl [HO]; · iexact HO
  iintro ⟨Hb, HA, Hs7, HO⟩
  rw [wp_bind]
  iapply (wp_copyX x d L 3 _ q O W _ 3 4 rfl rfl)
  isplitr; · iexact Hmw
  isplitl [Hx]; · iexact Hx
  isplitl [HX]; · iexact HX
  isplitl [Hs8]; · iexact Hs8
  isplitl [HO]; · iexact HO
  iintro ⟨Hx, HX, Hs8, HO⟩
  rw [wp_bind]
  iapply (wp_copyB x bias row col val d L 3 _ q' O W _ 3 4 rfl rfl)
  isplitr; · iexact Hmw
  isplitl [Hb]; · iexact Hb
  isplitl [HA]; · iexact HA
  isplitl [Hs9]; · iexact Hs9
  isplitl [HO]; · iexact HO
  iintro ⟨Hb, HA, Hs9, HO⟩
  rw [wp_bind]
  iapply (wp_copyX x d L 4 _ q O W _ 4 5 rfl rfl)
  isplitr; · iexact Hmw
  isplitl [Hx]; · iexact Hx
  isplitl [HX]; · iexact HX
  isplitl [Hs10]; · iexact Hs10
  isplitl [HO]; · iexact HO
  iintro ⟨Hx, HX, Hs10, HO⟩
  rw [wp_bind]
  iapply (wp_copyB x bias row col val d L 4 _ q' O W _ 4 5 rfl rfl)
  isplitr; · iexact Hmw
  isplitl [Hb]; · iexact Hb
  isplitl [HA]; · iexact HA
  isplitl [Hs11]; · iexact Hs11
  isplitl [HO]; · iexact HO
  iintro ⟨Hb, HA, Hs11, HO⟩
  rw [wp_bind]
  iapply (wp_copyX x d L 5 _ q O W _ 5 6 rfl rfl)
  isplitr; · iexact Hmw
  isplitl [Hx]; · iexact Hx
  isplitl [HX]; · iexact HX
  isplitl [Hs12]; · iexact Hs12
  isplitl [HO]; · iexact HO
  iintro ⟨Hx, HX, Hs12, HO⟩
  rw [wp_bind]
  iapply (wp_copyB x bias row col val d L 5 _ q' O W _ 5 6 rfl rfl)
  isplitr; · iexact Hmw
  isplitl [Hb]; · iexact Hb
  isplitl [HA]; · iexact HA
  isplitl [Hs13]; · iexact Hs13
  isplitl [HO]; · iexact HO
  iintro ⟨Hb, HA, Hs13, HO⟩
  rw [wp_bind]
  iapply (wp_copyX x d L 6 _ q O W _ 6 7 rfl rfl)
  isplitr; · iexact Hmw
  isplitl [Hx]; · iexact Hx
  isplitl [HX]; · iexact HX
  isplitl [Hs14]; · iexact Hs14
  isplitl [HO]; · iexact HO
  iintro ⟨Hx, HX, Hs14, HO⟩
  rw [wp_bind]
  iapply (wp_copyB x bias row col val d L 6 _ q' O W _ 6 7 rfl rfl)
  isplitr; · iexact Hmw
  isplitl [Hb]; · iexact Hb
  isplitl [HA]; · iexact HA
  isplitl [Hs15]; · iexact Hs15
  isplitl [HO]; · iexact HO
  iintro ⟨Hb, HA, Hs15, HO⟩
  rw [wp_bind]
  iapply (wp_copyX x d L 7 _ q O W _ 7 8 rfl rfl)
  isplitr; · iexact Hmw
  isplitl [Hx]; · iexact Hx
  isplitl [HX]; · iexact HX
  isplitl [Hs16]; · iexact Hs16
  isplitl [HO]; · iexact HO
  iintro ⟨Hx, HX, Hs16, HO⟩
  iapply (wp_copyB x bias row col val d L 7 _ q' O W _ 7 8 rfl rfl)
  isplitr; · iexact Hmw
  isplitl [Hb]; · iexact Hb
  isplitl [HA]; · iexact HA
  isplitl [Hs17]; · iexact Hs17
  isplitl [HO]; · iexact HO
  iintro ⟨Hb, HA, Hs17, HO⟩
  icases HX with ⟨%gx, %hx, HX⟩
  icases HA with ⟨%ga, %ha, HA⟩
  have hx := upTo_eight _ _ hx
  have ha := upTo_eight _ _ ha
  subst hx ha
  iapply Hk
  isplitl [Hx]; · iexact Hx
  isplitl [Hb]; · iexact Hb
  isplitl [HX HA]
  · unfold acc
    isplitl [HX]; · iexact HX
    iexact HA
  isplitr [HO]
  · isplitl [Hs2]; · iexact Hs2
    isplitl [Hs3]; · iexact Hs3
    isplitl [Hs4]; · iexact Hs4
    isplitl [Hs5]; · iexact Hs5
    isplitl [Hs6]; · iexact Hs6
    isplitl [Hs7]; · iexact Hs7
    isplitl [Hs8]; · iexact Hs8
    isplitl [Hs9]; · iexact Hs9
    isplitl [Hs10]; · iexact Hs10
    isplitl [Hs11]; · iexact Hs11
    isplitl [Hs12]; · iexact Hs12
    isplitl [Hs13]; · iexact Hs13
    isplitl [Hs14]; · iexact Hs14
    isplitl [Hs15]; · iexact Hs15
    isplitl [Hs16]; · iexact Hs16
    iexact Hs17
  iexact HO

/-! ## The copies out -/

theorem wp_outs (Q : PUnit → sProp 𝕄) :
    iprop(Transfers.MayWaits (VT d L) (none : HIx 1) O ∗ (aS.view.loc (VT d L) ↦{fullShare} accAt x bias row col val (base L) 167936)
      ∗ (∃ f, oM.view.loc (VT d L) ↦[slab L]{fullShare} f) ∗ idleOut (F := F) d L ∗ owing (F := F) d L O W
      ∗ (iprop((∃ f, aS.view.loc (VT d L) ↦{fullShare} f) ∗ (oM.view.loc (VT d L) ↦[slab L]{fullShare} outAt x bias row col val)
          ∗ idleOut (F := F) d L ∗ owing (F := F) d L O W) -∗ Q ⟨⟩))
      ⊢ wp frame (wpE (defs₀ (F := F)) 𝒱₀ (VT d L) none) Set.univ (outsProg L) Q := by
  iintro ⟨#Hmw, HA, ⟨%fo, Ho⟩, ⟨Hs18, Hs19, Hs20, Hs21, Hs22, Hs23, Hs24, Hs25⟩, HO, Hk⟩
  ihave Ho := (show (oM.view.loc (VT d L) ↦[slab L]{fullShare} fo : sProp 𝕄)
      ⊢ iprop(∃ f : S256x4096.Idx → Elt F .f32, ⌜outTo L (outAt x bias row col val) f 0⌝ ∗ (oM.view.loc (VT d L) ↦[slab L]{fullShare} f)) from by
    iintro H; iexists fo; isplitr
    · ipureintro; exact outTo_zero _ _ _
    iexact H) $$ Ho
  unfold outsProg
  rw [wp_bind]
  iapply (wp_copyO x bias row col val d L 0 _ O W _ 0 1 rfl rfl)
  isplitr; · iexact Hmw
  isplitl [HA]; · iexact HA
  isplitl [Ho]; · iexact Ho
  isplitl [Hs18]; · iexact Hs18
  isplitl [HO]; · iexact HO
  iintro ⟨HA, Ho, Hs18, HO⟩
  rw [wp_bind]
  iapply (wp_copyO x bias row col val d L 1 _ O W _ 1 2 rfl rfl)
  isplitr; · iexact Hmw
  isplitl [HA]; · iexact HA
  isplitl [Ho]; · iexact Ho
  isplitl [Hs19]; · iexact Hs19
  isplitl [HO]; · iexact HO
  iintro ⟨HA, Ho, Hs19, HO⟩
  rw [wp_bind]
  iapply (wp_copyO x bias row col val d L 2 _ O W _ 2 3 rfl rfl)
  isplitr; · iexact Hmw
  isplitl [HA]; · iexact HA
  isplitl [Ho]; · iexact Ho
  isplitl [Hs20]; · iexact Hs20
  isplitl [HO]; · iexact HO
  iintro ⟨HA, Ho, Hs20, HO⟩
  rw [wp_bind]
  iapply (wp_copyO x bias row col val d L 3 _ O W _ 3 4 rfl rfl)
  isplitr; · iexact Hmw
  isplitl [HA]; · iexact HA
  isplitl [Ho]; · iexact Ho
  isplitl [Hs21]; · iexact Hs21
  isplitl [HO]; · iexact HO
  iintro ⟨HA, Ho, Hs21, HO⟩
  rw [wp_bind]
  iapply (wp_copyO x bias row col val d L 4 _ O W _ 4 5 rfl rfl)
  isplitr; · iexact Hmw
  isplitl [HA]; · iexact HA
  isplitl [Ho]; · iexact Ho
  isplitl [Hs22]; · iexact Hs22
  isplitl [HO]; · iexact HO
  iintro ⟨HA, Ho, Hs22, HO⟩
  rw [wp_bind]
  iapply (wp_copyO x bias row col val d L 5 _ O W _ 5 6 rfl rfl)
  isplitr; · iexact Hmw
  isplitl [HA]; · iexact HA
  isplitl [Ho]; · iexact Ho
  isplitl [Hs23]; · iexact Hs23
  isplitl [HO]; · iexact HO
  iintro ⟨HA, Ho, Hs23, HO⟩
  rw [wp_bind]
  iapply (wp_copyO x bias row col val d L 6 _ O W _ 6 7 rfl rfl)
  isplitr; · iexact Hmw
  isplitl [HA]; · iexact HA
  isplitl [Ho]; · iexact Ho
  isplitl [Hs24]; · iexact Hs24
  isplitl [HO]; · iexact HO
  iintro ⟨HA, Ho, Hs24, HO⟩
  iapply (wp_copyO x bias row col val d L 7 _ O W _ 7 8 rfl rfl)
  isplitr; · iexact Hmw
  isplitl [HA]; · iexact HA
  isplitl [Ho]; · iexact Ho
  isplitl [Hs25]; · iexact Hs25
  isplitl [HO]; · iexact HO
  iintro ⟨HA, Ho, Hs25, HO⟩
  icases Ho with ⟨%go, %hgo, Ho⟩
  iapply Hk
  isplitl [HA]
  · iexists _; iexact HA
  isplitl [Ho]
  · iapply (Entails.of_eq (pointsTo_congr (ℓ := oM.view.loc (VT d L)) (I := slab L) (q := fullShare) (f := go) (g := outAt x bias row col val)
      (fun i hi => hgo i (Finset.mem_filter.mp hi).2.1 (Finset.mem_filter.mp hi).2.2)))
    iexact Ho
  isplitr [HO]
  · isplitl [Hs18]; · iexact Hs18
    isplitl [Hs19]; · iexact Hs19
    isplitl [Hs20]; · iexact Hs20
    isplitl [Hs21]; · iexact Hs21
    isplitl [Hs22]; · iexact Hs22
    isplitl [Hs23]; · iexact Hs23
    isplitl [Hs24]; · iexact Hs24
    iexact Hs25
  iexact HO

/-! ## The task -/

variable (hrow : ∀ e, (row e).toNat < 4096) (hcol : ∀ e, (col e).toNat < 4096)

include hrow hcol in
theorem wp_tile (q q' q₀ q₁ : PosShare TreeShare) (Q : PUnit → sProp 𝕄) :
    iprop(Transfers.MayWaits (VT d L) (none : HIx 1) O ∗ (xM.view.loc (VT d L) ↦{q} x) ∗ (bM.view.loc (VT d L) ↦{q'} bias)
      ∗ edges row col val d L q₀ ∗ edges row col val d L q₁ ∗ (∃ f, oM.view.loc (VT d L) ↦[slab L]{fullShare} f)
      ∗ ((∃ f, xS.view.loc (VT d L) ↦{fullShare} f) ∗ (∃ f, aS.view.loc (VT d L) ↦{fullShare} f) ∗ (∃ f, rS.view.loc (VT d L) ↦{fullShare} f)
        ∗ (∃ f, cS.view.loc (VT d L) ↦{fullShare} f) ∗ (∃ f, vS.view.loc (VT d L) ↦{fullShare} f))
      ∗ (idle (F := F) d L 0 ∗ idle (F := F) d L 1 ∗ idleIn (F := F) d L ∗ idleOut (F := F) d L) ∗ owing (F := F) d L O W
      ∗ (iprop((xM.view.loc (VT d L) ↦{q} x) ∗ (bM.view.loc (VT d L) ↦{q'} bias)
          ∗ edges row col val d L q₀ ∗ edges row col val d L q₁ ∗ (oM.view.loc (VT d L) ↦[slab L]{fullShare} outAt x bias row col val)
          ∗ ((∃ f, xS.view.loc (VT d L) ↦{fullShare} f) ∗ (∃ f, aS.view.loc (VT d L) ↦{fullShare} f) ∗ (∃ f, rS.view.loc (VT d L) ↦{fullShare} f)
            ∗ (∃ f, cS.view.loc (VT d L) ↦{fullShare} f) ∗ (∃ f, vS.view.loc (VT d L) ↦{fullShare} f))
          ∗ (idle (F := F) d L 0 ∗ idle (F := F) d L 1 ∗ idleIn (F := F) d L ∗ idleOut (F := F) d L) ∗ owing (F := F) d L O W) -∗ Q ⟨⟩))
      ⊢ wp frame (wpE (defs₀ (F := F)) 𝒱₀ (VT d L) none) Set.univ (tileProg L) Q := by
  rw [tileProg_eq]
  iintro ⟨#Hmw, Hx, Hb, HE0, HE1, Ho, ⟨HX, HA, HR, HC, HV⟩, ⟨Hs0, Hs1, HI, HU⟩, HO, Hk⟩
  ihave HR := (halves_r d L) $$ HR
  icases HR with ⟨HR0, HR1⟩
  ihave HC := (halves_c d L) $$ HC
  icases HC with ⟨HC0, HC1⟩
  ihave HV := (halves_v d L) $$ HV
  icases HV with ⟨HV0, HV1⟩
  rw [wp_bind]
  iapply (wp_ins d L x bias row col val O W q q')
  isplitr; · iexact Hmw
  isplitl [Hx]; · iexact Hx
  isplitl [Hb]; · iexact Hb
  isplitl [HX]; · iexact HX
  isplitl [HA]; · iexact HA
  isplitl [HI]; · iexact HI
  isplitl [HO]; · iexact HO
  iintro ⟨Hx, Hb, HA, HI, HO⟩
  rw [wp_bind]
  iapply (wp_edges x bias row col val d L hrow hcol O W q₀ q₁)
  isplitr; · iexact Hmw
  isplitl [HA]; · iexact HA
  isplitl [HR0 HC0 HV0]
  · unfold halfAny
    isplitl [HR0]; · iexact HR0
    isplitl [HC0]; · iexact HC0
    iexact HV0
  isplitl [HE0]; · iexact HE0
  isplitl [Hs0]; · iexact Hs0
  isplitl [HR1 HC1 HV1]
  · unfold halfAny
    isplitl [HR1]; · iexact HR1
    isplitl [HC1]; · iexact HC1
    iexact HV1
  isplitl [HE1]; · iexact HE1
  isplitl [Hs1]; · iexact Hs1
  isplitl [HO]; · iexact HO
  iintro ⟨HA, HH0, HE0, Hs0, HH1, HE1, Hs1, HO⟩
  unfold acc halfAny
  icases HA with ⟨HX, HA⟩
  icases HH0 with ⟨HR0, HC0, HV0⟩
  icases HH1 with ⟨HR1, HC1, HV1⟩
  iapply (wp_outs d L x bias row col val O W)
  isplitr; · iexact Hmw
  isplitl [HA]; · iexact HA
  isplitl [Ho]; · iexact Ho
  isplitl [HU]; · iexact HU
  isplitl [HO]; · iexact HO
  iintro ⟨HA, Ho, HU, HO⟩
  iapply Hk
  isplitl [Hx]; · iexact Hx
  isplitl [Hb]; · iexact Hb
  isplitl [HE0]; · iexact HE0
  isplitl [HE1]; · iexact HE1
  isplitl [Ho]; · iexact Ho
  isplitl [HX HA HR0 HR1 HC0 HC1 HV0 HV1]
  · isplitl [HX]; · iexists _; iexact HX
    isplitl [HA]; · iexact HA
    isplitl [HR0 HR1]
    · iapply (join_r d L)
      isplitl [HR0]; · iexact HR0
      iexact HR1
    isplitl [HC0 HC1]
    · iapply (join_c d L)
      isplitl [HC0]; · iexact HC0
      iexact HC1
    · iapply (join_v d L)
      isplitl [HV0]; · iexact HV0
      iexact HV1
  isplitr [HO]
  · isplitl [Hs0]; · iexact Hs0
    isplitl [Hs1]; · iexact Hs1
    isplitl [HI]; · iexact HI
    iexact HU
  iexact HO

end Cert.Proof.Spmm
-- ==== Proof.Pay.lean ====
/-
  What the launch hands round. Each SparseCore's sequencer takes half of the five arrays the kernel reads and the rows
  of the result its tiles write; each tile a share of that half and its slab of eight rows. The tiles bring the shares
  back, the slabs holding the kernel's result.
-/
module

public import proofs.«01_k».proof.Proof.Tile

@[expose] public section

noncomputable section

namespace Cert.Proof.Spmm

open Cert.KernelIdeal Cert.KernelIdeal.Gen
open Idealize.ShloMosaic
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-! ## The arrays -/

abbrev xL (d : Dev nD) : Loc nD τ sig := (SparseCore.T d).loc main_arg0
abbrev bL (d : Dev nD) : Loc nD τ sig := (SparseCore.T d).loc main_arg2
abbrev rL (d : Dev nD) : Loc nD τ sig := (SparseCore.T d).loc main_v1
abbrev cL (d : Dev nD) : Loc nD τ sig := (SparseCore.T d).loc main_v3
abbrev vL (d : Dev nD) : Loc nD τ sig := (SparseCore.T d).loc main_v5
abbrev oL (d : Dev nD) : Loc nD τ sig := (SparseCore.T d).loc main_v6

variable [FloatOps F]
variable (m : (ℓ : Loc nD τ sig) → Buf (Elt F) ℓ) (ρ : Dev nD → PrngReg)

/-- A list of 167773 words with 163 zeros after it. -/
def padI (a : S167773.Idx → BitVec 32) : S167936.Idx → BitVec 32 :=
  concatenate S167936 0 [⟨S167773, a⟩, ⟨S163, broadcastInDim S163 ![] bcast_S_S163 (constantI S_ 32 0#32)⟩] concatenates_S167773_S163_S167936_d0
/-- The same of floats. -/
def padF (a : S167773.Idx → Elt F .f32) : S167936.Idx → Elt F .f32 :=
  concatenate S167936 0 [⟨S167773, a⟩, ⟨S163, broadcastInDim S163 ![] bcast_S_S163 (constant S_ .f32 0x00000000#32)⟩] concatenates_S167773_S163_S167936_d0

/-- What the kernel is called with, and what it leaves. -/
def xv (d : Dev nD) : S256x4096.Idx → Elt F .f32 := m (xL d)
def bv (d : Dev nD) : S4096.Idx → Elt F .f32 := m (bL d)
def rowv (d : Dev nD) : S167936.Idx → BitVec 32 := padI (m ((SparseCore.T d).loc main_arg3))
def colv (d : Dev nD) : S167936.Idx → BitVec 32 := padI (m ((SparseCore.T d).loc main_arg4))
def valv (d : Dev nD) : S167936.Idx → Elt F .f32 := padF (m ((SparseCore.T d).loc main_arg1))
def outv (d : Dev nD) : S256x4096.Idx → Elt F .f32 := outAt (xv m d) (bv m d) (rowv m d) (colv m d) (valv m d)

/-- What the run asks of the launch: every row and column number below 4096. -/
def PreOK : Prop := ∀ d : Dev nD, (∀ e, (rowv m d e).toNat < 4096) ∧ ∀ e, (colv m d e).toNat < 4096

/-- The five arrays read, at a share. -/
def reads (d : Dev nD) (q : PosShare TreeShare) : sProp 𝕄 :=
  iprop((xL d ↦{q} xv m d) ∗ (bL d ↦{q} bv m d) ∗ (rL d ↦{q} rowv m d) ∗ (cL d ↦{q} colv m d) ∗ (vL d ↦{q} valv m d))

instance reads_storable (d : Dev nD) (q : PosShare TreeShare) : Storable (upEmb : UEmb _ 𝕄) (reads m d q) := by
  unfold reads; infer_instance

/-- They split along the share, -/
theorem reads_share (d : Dev nD) (q : PosShare TreeShare) : (reads m d q : sProp 𝕄) ⊣⊢ iprop(reads m d q.left ∗ reads m d q.right) := by
  have h := fun {ℓ : Loc nD τ sig} (f : Buf (Elt F) ℓ) => pointsTo_share (ℓ := ℓ) (I := Finset.univ) (f := f) (Val := Elt F) (Ix := HIx 1) (Name := ℕ) (U := UU) (Lvl := ℕ) (PosShare.mem_left_op_right q)
  unfold reads
  constructor
  · iintro ⟨Hx, Hb, Hr, Hc, Hv⟩
    ihave Hx := (h _).1 $$ Hx
    ihave Hb := (h _).1 $$ Hb
    ihave Hr := (h _).1 $$ Hr
    ihave Hc := (h _).1 $$ Hc
    ihave Hv := (h _).1 $$ Hv
    icases Hx with ⟨Hx, Hx'⟩
    icases Hb with ⟨Hb, Hb'⟩
    icases Hr with ⟨Hr, Hr'⟩
    icases Hc with ⟨Hc, Hc'⟩
    icases Hv with ⟨Hv, Hv'⟩
    isplitl [Hx Hb Hr Hc Hv]
    · isplitl [Hx]; · iexact Hx
      isplitl [Hb]; · iexact Hb
      isplitl [Hr]; · iexact Hr
      isplitl [Hc]; · iexact Hc
      iexact Hv
    isplitl [Hx']; · iexact Hx'
    isplitl [Hb']; · iexact Hb'
    isplitl [Hr']; · iexact Hr'
    isplitl [Hc']; · iexact Hc'
    iexact Hv'
  · iintro ⟨⟨Hx, Hb, Hr, Hc, Hv⟩, ⟨Hx', Hb', Hr', Hc', Hv'⟩⟩
    isplitl [Hx Hx']
    · iapply (h _).2; isplitl [Hx]; · iexact Hx
      iexact Hx'
    isplitl [Hb Hb']
    · iapply (h _).2; isplitl [Hb]; · iexact Hb
      iexact Hb'
    isplitl [Hr Hr']
    · iapply (h _).2; isplitl [Hr]; · iexact Hr
      iexact Hr'
    isplitl [Hc Hc']
    · iapply (h _).2; isplitl [Hc]; · iexact Hc
      iexact Hc'
    iapply (h _).2; isplitl [Hv]; · iexact Hv
    iexact Hv'

/-- and into sixteen tiles' shares and a rest. -/
theorem reads_tiles (d : Dev nD) (q : PosShare TreeShare) :
    (reads m d q : sProp 𝕄) ⊣⊢ iprop(reads m d (Transfers.shareDrop q 16) ∗ bigSep (Finset.range 16) fun i => reads m d (Transfers.shareTokN q i)) := by
  have h := fun {ℓ : Loc nD τ sig} (f : Buf (Elt F) ℓ) => Transfers.pointsTo_toks_range (Val := Elt F) (Ix := HIx 1) (Name := ℕ) (U := UU) (Lvl := ℕ) (ℓ := ℓ) (S := Finset.univ) (f := f) q 16
  unfold reads
  rw [bigSep_sep', bigSep_sep', bigSep_sep', bigSep_sep']
  constructor
  · iintro ⟨Hx, Hb, Hr, Hc, Hv⟩
    ihave Hx := (h _).1 $$ Hx
    ihave Hb := (h _).1 $$ Hb
    ihave Hr := (h _).1 $$ Hr
    ihave Hc := (h _).1 $$ Hc
    ihave Hv := (h _).1 $$ Hv
    icases Hx with ⟨Hx, Hx'⟩
    icases Hb with ⟨Hb, Hb'⟩
    icases Hr with ⟨Hr, Hr'⟩
    icases Hc with ⟨Hc, Hc'⟩
    icases Hv with ⟨Hv, Hv'⟩
    isplitl [Hx Hb Hr Hc Hv]
    · isplitl [Hx]; · iexact Hx
      isplitl [Hb]; · iexact Hb
      isplitl [Hr]; · iexact Hr
      isplitl [Hc]; · iexact Hc
      iexact Hv
    isplitl [Hx']; · iexact Hx'
    isplitl [Hb']; · iexact Hb'
    isplitl [Hr']; · iexact Hr'
    isplitl [Hc']; · iexact Hc'
    iexact Hv'
  · iintro ⟨⟨Hx, Hb, Hr, Hc, Hv⟩, ⟨Hx', Hb', Hr', Hc', Hv'⟩⟩
    isplitl [Hx Hx']
    · iapply (h _).2; isplitl [Hx]; · iexact Hx
      iexact Hx'
    isplitl [Hb Hb']
    · iapply (h _).2; isplitl [Hb]; · iexact Hb
      iexact Hb'
    isplitl [Hr Hr']
    · iapply (h _).2; isplitl [Hr]; · iexact Hr
      iexact Hr'
    isplitl [Hc Hc']
    · iapply (h _).2; isplitl [Hc]; · iexact Hc
      iexact Hc'
    iapply (h _).2; isplitl [Hv]; · iexact Hv
    iexact Hv'

/-! ## The rows of the result -/

/-- Tile `i` of core `c` writes eight rows, -/
def slabN (c i : ℕ) : Finset S256x4096.Idx := Finset.univ.filter (fun j => 16 * i + 8 * c ≤ (j 0).val ∧ (j 0).val < 16 * i + 8 * c + 8)
/-- the core every other block of eight. -/
def coreRows (c : ℕ) : Finset S256x4096.Idx := Finset.univ.filter (fun j => (j 0).val / 8 % 2 = c)

theorem slabs_disjoint (c : ℕ) : ∀ i ∈ Finset.range 16, ∀ i' ∈ Finset.range 16, i ≠ i' → Disjoint (slabN c i) (slabN c i') := by
  intro i _ i' _ h
  rw [Finset.disjoint_left]
  intro j hj hj'
  have h1 := (Finset.mem_filter.mp hj).2
  have h2 := (Finset.mem_filter.mp hj').2
  omega

theorem slabs_cover (c : ℕ) (hc : c < 2) : (Finset.range 16).biUnion (slabN c) = coreRows c := by
  ext j
  have hj : (j 0).val < 256 := (j 0).isLt
  unfold coreRows slabN
  rw [Finset.mem_biUnion, Finset.mem_filter]
  constructor
  · rintro ⟨i, hi, h⟩
    have := (Finset.mem_filter.mp h).2
    exact ⟨Finset.mem_univ _, by omega⟩
  · rintro ⟨-, h⟩
    refine ⟨(j 0).val / 16, Finset.mem_range.mpr (by omega), Finset.mem_filter.mpr ⟨Finset.mem_univ _, by omega, by omega⟩⟩

theorem coreRows_rest : Finset.univ \ coreRows 0 = coreRows 1 := by
  ext j
  unfold coreRows
  rw [Finset.mem_sdiff, Finset.mem_filter, Finset.mem_filter]
  simp only [Finset.mem_univ, true_and]
  omega

theorem core_tiles (d : Dev nD) (c : ℕ) (hc : c < 2) (f : Buf (Elt F) (oL d)) :
    (oL d ↦[coreRows c]{fullShare} f : sProp 𝕄) = bigSep (Finset.range 16) fun i => oL d ↦[slabN c i]{fullShare} f := by
  rw [← pointsTo_biUnion (ℓ := oL d) (Finset.range 16) (slabN c) (slabs_disjoint c), slabs_cover c hc]

/-! ## What the handshakes carry -/

/-- A core's share of the arrays read. -/
def cq : ℕ → PosShare TreeShare
  | 0 => fullShare.left
  | _ => fullShare.right
/-- A tile's. -/
abbrev tq (c i : ℕ) : PosShare TreeShare := Transfers.shareTokN (cq c) i

def goP (d : Dev nD) (c i : ℕ) : sProp 𝕄 := iprop(reads m d (tq c i) ∗ ∃ f, oL d ↦[slabN c i]{fullShare} f)
def tdP (d : Dev nD) (c i : ℕ) : sProp 𝕄 := iprop(reads m d (tq c i) ∗ oL d ↦[slabN c i]{fullShare} outv m d)
def stP (d : Dev nD) (c : ℕ) : sProp 𝕄 := iprop(reads m d (cq c) ∗ ∃ f, oL d ↦[coreRows c]{fullShare} f)
def dnP (d : Dev nD) (c : ℕ) : sProp 𝕄 := iprop(reads m d (cq c) ∗ oL d ↦[coreRows c]{fullShare} outv m d)

instance goP_storable (d : Dev nD) (c i : ℕ) : Storable (upEmb : UEmb _ 𝕄) (goP m d c i) := by unfold goP; infer_instance
instance tdP_storable (d : Dev nD) (c i : ℕ) : Storable (upEmb : UEmb _ 𝕄) (tdP m d c i) := by unfold tdP; infer_instance
instance stP_storable (d : Dev nD) (c : ℕ) : Storable (upEmb : UEmb _ 𝕄) (stP m d c) := by unfold stP; infer_instance
instance dnP_storable (d : Dev nD) (c : ℕ) : Storable (upEmb : UEmb _ 𝕄) (dnP m d c) := by unfold dnP; infer_instance

def P : (K (F := F)).Pay (nD := nD) (Val := Elt F) (Name := ℕ) (U := UU) where
  st := fun q d c => match q with | 0 => stP m d c.val
  dn := fun q d c => match q with | 0 => dnP m d c.val
  go := fun q d c i => match q with | 0 => goP m d c.val i.val
  td := fun q d c i => match q with | 0 => tdP m d c.val i.val
  x := fun _ _ => iprop(emp)

instance P_storable : (P (F := F) m).IsStorable where
  st q d c := match q with | 0 => stP_storable m d c.val
  dn q d c := match q with | 0 => dnP_storable m d c.val
  go q d c i := match q with | 0 => goP_storable m d c.val i.val
  td q d c i := match q with | 0 => tdP_storable m d c.val i.val

/-! ## A core's dispatch -/

theorem bigSep_tiles (Φ : ℕ → sProp 𝕄) :
    (bigSep Finset.univ fun i : Fin ((K (F := F)).nSub 0) => Φ i.val) = bigSep (Finset.range 16) Φ := by
  show (bigSep (Finset.univ : Finset (Fin 16)) fun i => Φ i.val) = _
  rw [show Finset.range 16 = (Finset.univ : Finset (Fin 16)).map Fin.valEmbedding by decide, BI.bigSep_map]
  rfl

theorem deal (d : Dev nD) (c : ℕ) (hc : c < 2) :
    (stP m d c : sProp 𝕄) ⊢ iprop((bigSep (Finset.range 16) fun i => goP m d c i)
      ∗ ((bigSep (Finset.range 16) fun i => tdP m d c i) -∗ dnP m d c)) := by
  unfold stP dnP
  rw [core_tiles d c hc (outv m d)]
  iintro ⟨HR, %f, Ho⟩
  ihave HR := (reads_tiles m d (cq c)).1 $$ HR
  icases HR with ⟨HK, HR⟩
  isplitl [HR Ho]
  · unfold goP
    rw [bigSep_sep']
    isplitl [HR]; · iexact HR
    ihave Ho := (Entails.of_eq (core_tiles d c hc f)) $$ Ho
    have hm : (bigSep (Finset.range 16) fun i => (oL d ↦[slabN c i]{fullShare} f : sProp 𝕄))
        ⊢ (bigSep (Finset.range 16) fun i => iprop(∃ f, oL d ↦[slabN c i]{fullShare} f) : sProp 𝕄) :=
      bigSep_mono (fun i _ => (show (oL d ↦[slabN c i]{fullShare} f : sProp 𝕄) ⊢ iprop(∃ f, oL d ↦[slabN c i]{fullShare} f) from by
        iintro H; iexists f; iexact H))
    iapply hm
    iexact Ho
  unfold tdP
  rw [bigSep_sep']
  iintro ⟨HR, Ho⟩
  isplitl [HK HR]
  · iapply (reads_tiles m d (cq c)).2
    isplitl [HK]; · iexact HK
    iexact HR
  iexact Ho

theorem vecSplit : (K (F := F)).VecSplit' (P m) 0 := by
  intro d c
  have hc : c.val < 2 := c.isLt
  show stP m d c.val ⊢ |={Set.univ}=> iprop(
      (bigSep Finset.univ fun i : Fin ((K (F := F)).nSub 0) => goP m d c.val i.val)
      ∗ ((bigSep Finset.univ fun i : Fin ((K (F := F)).nSub 0) => tdP m d c.val i.val) -∗ dnP m d c.val))
  rw [bigSep_tiles (F := F) (fun i => goP m d c.val i), bigSep_tiles (F := F) (fun i => tdP m d c.val i)]
  iintro H; imodintro
  iapply (deal m d c.val hc)
  iexact H

end Cert.Proof.Spmm
-- ==== Proof.Obl.lean ====
/-
  One task of the launch: from what a tile is dealt (its shares, its slab, its own buffers and idle semaphores) the
  printed kernel body runs to what the tile hands back.
-/
module

public import proofs.«01_k».proof.Proof.Pay

@[expose] public section

set_option maxRecDepth 65536

noncomputable section

namespace Cert.Proof.Spmm

open Cert.KernelIdeal Cert.KernelIdeal.Gen
open Idealize.ShloMosaic
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

/-! ## A tile's own semaphores and buffers -/

/-- Semaphore `k` of a tile. -/
abbrev dcell (d : Dev nD) (c : Fin τ.nSC) (i : Fin τ.nSub) (k : Fin 26) : GSem nD τ sig := (V d c i, .dma (csem k.val k.isLt))

theorem dcell_mem (d : Dev nD) (c : Fin τ.nSC) (i : Fin τ.nSub) (k : Fin 26) : dcell d c i k ∈ ownCells (V d c i) :=
  mem_ownCells.mpr ⟨rfl, (show ∀ s : DmaSem sig, (SemLoc.dma s : SemLoc sig).isScoped .scVector = true by decide) _⟩

variable (d : Dev nD) (L : grid0.Coords)

/-- All twenty-six idle. -/
abbrev idleAll : sProp 𝕄 := iprop(idle (F := F) d L 0 ∗ idle (F := F) d L 1 ∗ idleIn (F := F) d L ∗ idleOut (F := F) d L)

/-- What else the tile has of semaphores. -/
def semRest : sProp 𝕄 := bigSep ((ownCells (VT d L)) \ Finset.univ.image (dcell d (cV L) (jV L))) fun g => semVal g 0

theorem sems_chain (Φ : Fin 26 → sProp 𝕄) :
    (bigSep Finset.univ Φ : sProp 𝕄) = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14 ∗ Φ 15 ∗ Φ 16 ∗ Φ 17 ∗ Φ 18 ∗ Φ 19 ∗ Φ 20 ∗ Φ 21 ∗ Φ 22 ∗ Φ 23 ∗ Φ 24 ∗ Φ 25) := by
  rw [show (Finset.univ : Finset (Fin 26)) = {0, 1, 2, 3, 4, 5, 6, 7, 8, 9, 10, 11, 12, 13, 14, 15, 16, 17, 18, 19, 20, 21, 22, 23, 24, 25} by decide,
    SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), bigSep_singleton]

theorem ownSems0_tile : (ownSems0 (VT d L) : sProp 𝕄)
    ⊣⊢ iprop(idleAll (F := F) d L ∗ semRest (F := F) d L) := by
  have e : (ownSems0 (VT d L) : sProp 𝕄) = iprop((bigSep Finset.univ fun k : Fin 26 => semVal (dcell d (cV L) (jV L) k) 0) ∗ semRest (F := F) d L) := by
    unfold SparseCore.Cfg.ownSems0 semRest
    rw [SparseCore.bigSep_sdiff_split' (t := Finset.univ.image (dcell d (cV L) (jV L)))
        (Finset.image_subset_iff.mpr fun k _ => dcell_mem d (cV L) (jV L) k),
      SparseCore.bigSep_image_of_injOn (fun a _ b _ h => by
        have := congrArg (fun g : GSem nD τ sig => g.2) h
        simp only [SemLoc.dma.injEq, Fin.mk.injEq] at this; exact Fin.ext this)]
  rw [e, sems_chain]
  constructor
  · iintro ⟨⟨H0, H1, H2, H3, H4, H5, H6, H7, H8, H9, H10, H11, H12, H13, H14, H15, H16, H17, H18, H19, H20, H21, H22, H23, H24, H25⟩, HR⟩
    isplitr [HR]
    · isplitl [H0]; · iexact H0
      isplitl [H1]; · iexact H1
      isplitl [H2 H3 H4 H5 H6 H7 H8 H9 H10 H11 H12 H13 H14 H15 H16 H17]
      · isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        isplitl [H12]; · iexact H12
        isplitl [H13]; · iexact H13
        isplitl [H14]; · iexact H14
        isplitl [H15]; · iexact H15
        isplitl [H16]; · iexact H16
        iexact H17
      isplitl [H18]; · iexact H18
      isplitl [H19]; · iexact H19
      isplitl [H20]; · iexact H20
      isplitl [H21]; · iexact H21
      isplitl [H22]; · iexact H22
      isplitl [H23]; · iexact H23
      isplitl [H24]; · iexact H24
      iexact H25
    iexact HR
  · iintro ⟨⟨H0, H1, ⟨H2, H3, H4, H5, H6, H7, H8, H9, H10, H11, H12, H13, H14, H15, H16, H17⟩, ⟨H18, H19, H20, H21, H22, H23, H24, H25⟩⟩, HR⟩
    isplitr [HR]
    · isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      isplitl [H16]; · iexact H16
      isplitl [H17]; · iexact H17
      isplitl [H18]; · iexact H18
      isplitl [H19]; · iexact H19
      isplitl [H20]; · iexact H20
      isplitl [H21]; · iexact H21
      isplitl [H22]; · iexact H22
      isplitl [H23]; · iexact H23
      isplitl [H24]; · iexact H24
      iexact H25
    iexact HR

/-- What else the tile has of buffers. -/
def bufRest : sProp 𝕄 := bigSep ((((((ownRefs (τ := τ) (.scVector (cV L) (jV L))).erase ((Proc.scVector (cV L) (jV L)).devRef cc0_scratch0)).erase ((Proc.scVector (cV L) (jV L)).devRef cc0_scratch1)).erase ((Proc.scVector (cV L) (jV L)).devRef cc0_scratch2)).erase ((Proc.scVector (cV L) (jV L)).devRef cc0_scratch3)).erase ((Proc.scVector (cV L) (jV L)).devRef cc0_scratch4)) fun b => iprop(∃ f, ((d, b) : Loc nD τ sig) ↦{fullShare} f)

theorem ownBufs_tile : (ownBufs (VT d L) : sProp 𝕄)
    = iprop((∃ f, (VT d L).loc cc0_scratch0 ↦{fullShare} f) ∗ (∃ f, (VT d L).loc cc0_scratch1 ↦{fullShare} f) ∗ (∃ f, (VT d L).loc cc0_scratch2 ↦{fullShare} f) ∗ (∃ f, (VT d L).loc cc0_scratch3 ↦{fullShare} f) ∗ (∃ f, (VT d L).loc cc0_scratch4 ↦{fullShare} f) ∗ bufRest (F := F) d L) := by
  unfold SparseCore.Cfg.ownBufs bufRest
  refine (SparseCore.bigSep_erase' (SparseCore.Cfg.mem_ownRefs_of_owner (p := Proc.scVector (cV L) (jV L)) (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide), SparseCore.Cfg.mem_ownRefs_of_owner (p := Proc.scVector (cV L) (jV L)) (b := (Proc.scVector (cV L) (jV L)).devRef cc0_scratch1) rfl⟩)]
  rw [SparseCore.bigSep_erase' (Finset.mem_erase.mpr ⟨fun e => absurd (Proc.devRef_injective _ e) (show (cc0_scratch2 : Ref sig .scVector) ≠ cc0_scratch1 by decide), Finset.mem_erase.mpr ⟨fun e => absurd (Proc.devRef_injective _ e) (show (cc0_scratch2 : Ref sig .scVector) ≠ cc0_scratch0 by decide), SparseCore.Cfg.mem_ownRefs_of_owner (p := Proc.scVector (cV L) (jV L)) (b := (Proc.scVector (cV L) (jV L)).devRef cc0_scratch2) rfl⟩⟩)]
  rw [SparseCore.bigSep_erase' (Finset.mem_erase.mpr ⟨fun e => absurd (Proc.devRef_injective _ e) (show (cc0_scratch3 : Ref sig .scVector) ≠ cc0_scratch2 by decide), Finset.mem_erase.mpr ⟨fun e => absurd (Proc.devRef_injective _ e) (show (cc0_scratch3 : Ref sig .scVector) ≠ cc0_scratch1 by decide), Finset.mem_erase.mpr ⟨fun e => absurd (Proc.devRef_injective _ e) (show (cc0_scratch3 : Ref sig .scVector) ≠ cc0_scratch0 by decide), SparseCore.Cfg.mem_ownRefs_of_owner (p := Proc.scVector (cV L) (jV L)) (b := (Proc.scVector (cV L) (jV L)).devRef cc0_scratch3) rfl⟩⟩⟩)]
  rw [SparseCore.bigSep_erase' (Finset.mem_erase.mpr ⟨fun e => absurd (Proc.devRef_injective _ e) (show (cc0_scratch4 : Ref sig .scVector) ≠ cc0_scratch3 by decide), Finset.mem_erase.mpr ⟨fun e => absurd (Proc.devRef_injective _ e) (show (cc0_scratch4 : Ref sig .scVector) ≠ cc0_scratch2 by decide), Finset.mem_erase.mpr ⟨fun e => absurd (Proc.devRef_injective _ e) (show (cc0_scratch4 : Ref sig .scVector) ≠ cc0_scratch1 by decide), Finset.mem_erase.mpr ⟨fun e => absurd (Proc.devRef_injective _ e) (show (cc0_scratch4 : Ref sig .scVector) ≠ cc0_scratch0 by decide), SparseCore.Cfg.mem_ownRefs_of_owner (p := Proc.scVector (cV L) (jV L)) (b := (Proc.scVector (cV L) (jV L)).devRef cc0_scratch4) rfl⟩⟩⟩⟩)]

/-! ## The task -/

variable (m : (ℓ : Loc nD τ sig) → Buf (Elt F) ℓ)

theorem tile_body (hpre : PreOK m) (O : CellTallies nD τ sig (HIx 1)) (W : Waits sig (HIx 1)) (hO : ∀ g, O g none = 0) :
    iprop(levAts (K (F := F)).L (K (F := F)).lev ∗ emp ∗ goP m d (L 0).val (L 1).val
        ∗ scopedBufs (VT d L) ∗ scopedSems0 (VT d L) ∗ owes (VT d L) O W)
      ⊢ wp frame (wpE (defs₀ (F := F)) 𝒱₀ (VT d L) none) Set.univ (tileProg L)
          fun _ => iprop(tdP m d (L 0).val (L 1).val
            ∗ scopedBufs (VT d L) ∗ scopedSems0 (VT d L)
            ∗ ∃ W', ⌜∀ p ∈ W', p ∈ W ∨ p.2 = none ∨ p.2 = some (0 : Fin 1)⌝ ∗ owes (VT d L) O W') := by
  rw [(K (F := F)).scopedBufs_V scFacts d (cV L) (jV L), SparseCore.Cfg.scopedSems0_V (Val := Elt F) d (cV L) (jV L), ownBufs_tile]
  have hback := (reads_share m d (tq (L 0).val (L 1).val)).2
  unfold reads at hback
  unfold goP tdP
  iintro ⟨#Hlv, -, ⟨HR, Ho⟩, ⟨HX, HA, HRS, HCS, HVS, Hbufs⟩, Hsems, HO⟩
  ihave Hsems := (ownSems0_tile d L).1 $$ Hsems
  icases Hsems with ⟨HC, Hsr⟩
  ihave Hmw := (show levAts (K (F := F)).L (K (F := F)).lev ⊢ Transfers.MayWaits (VT d L) (none : HIx 1) O from
    (K (F := F)).mayWaits_none (thr := VT d L) hO) $$ Hlv
  ihave HR := (reads_share m d (tq (L 0).val (L 1).val)).1 $$ HR
  unfold reads
  icases HR with ⟨⟨Hx, Hb, Hr, Hc, Hv⟩, ⟨Hx', Hb', Hr', Hc', Hv'⟩⟩
  iapply (wp_tile d L (xv m d) (bv m d) (rowv m d) (colv m d) (valv m d) O W (hpre d).1 (hpre d).2
    (tq (L 0).val (L 1).val).left (tq (L 0).val (L 1).val).left (tq (L 0).val (L 1).val).left (tq (L 0).val (L 1).val).right)
  isplitl [Hmw]; · iexact Hmw
  isplitl [Hx]; · iexact Hx
  isplitl [Hb]; · iexact Hb
  unfold edges
  isplitl [Hr Hc Hv]
  · isplitl [Hr]; · iexact Hr
    isplitl [Hc]; · iexact Hc
    iexact Hv
  isplitl [Hr' Hc' Hv']
  · isplitl [Hr']; · iexact Hr'
    isplitl [Hc']; · iexact Hc'
    iexact Hv'
  isplitl [Ho]; · iexact Ho
  isplitl [HX HA HRS HCS HVS]
  · isplitl [HX]; · iexact HX
    isplitl [HA]; · iexact HA
    isplitl [HRS]; · iexact HRS
    isplitl [HCS]; · iexact HCS
    iexact HVS
  isplitl [HC]; · iexact HC
  isplitl [HO]
  · unfold owing
    iexists W
    isplitr
    · ipureintro; exact okW_refl W
    iexact HO
  iintro ⟨Hx, Hb, ⟨Hr, Hc, Hv⟩, ⟨Hr', Hc', Hv'⟩, Ho, ⟨HX, HA, HRS, HCS, HVS⟩, HC, HO⟩
  isplitl [Hx Hb Hr Hc Hv Hx' Hb' Hr' Hc' Hv' Ho]
  · isplitr [Ho]
    · iapply hback
      isplitl [Hx Hb Hr Hc Hv]
      · isplitl [Hx]; · iexact Hx
        isplitl [Hb]; · iexact Hb
        isplitl [Hr]; · iexact Hr
        isplitl [Hc]; · iexact Hc
        iexact Hv
      · isplitl [Hx']; · iexact Hx'
        isplitl [Hb']; · iexact Hb'
        isplitl [Hr']; · iexact Hr'
        isplitl [Hc']; · iexact Hc'
        iexact Hv'
    iexact Ho
  isplitl [HX HA HRS HCS HVS Hbufs]
  · isplitl [HX]; · iexact HX
    isplitl [HA]; · iexact HA
    isplitl [HRS]; · iexact HRS
    isplitl [HCS]; · iexact HCS
    isplitl [HVS]; · iexact HVS
    iexact Hbufs
  isplitl [HC Hsr]
  · iapply (ownSems0_tile d L).2
    isplitl [HC]; · iexact HC
    iexact Hsr
  unfold owing okW
  iexact HO

/-! ## The obligation -/

/-- The coordinates of tile `s` of core `c`. -/
def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 () = SparseCore.onTile hcore0 hsub0 (fun c s => cc0_spmm (F := F) (coordsV c s) xM (Memref.isWhole_whole _) vM (Memref.isWhole_whole _) bM (Memref.isWhole_whole _) rM (Memref.isWhole_whole _) cM (Memref.isWhole_whole _) oM (Memref.isWhole_whole _)
      xS (Memref.isWhole_whole _) aS (Memref.isWhole_whole _) rS (Memref.isWhole_whole _) cS (Memref.isWhole_whole _) vS (Memref.isWhole_whole _)
      cc0_scratch5 cc0_scratch6 cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 cc0_scoped17 cc0_scoped18 cc0_scoped19 cc0_scoped20 cc0_scoped21 cc0_scoped22 cc0_scoped23) ⟨⟩ c s := rfl

theorem tileObl (hpre : PreOK m) : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  rw [spmm_eq]
  exact tile_body d (coordsV ⟨_, hci.1⟩ ⟨_, hci.2⟩) m hpre O W hO

end Cert.Proof.Spmm
-- ==== Proof.Launch.lean ====
/-
  The host side: the lists padded, the launch, and what is left. From a memory whose row and column numbers are below
  4096 the whole program runs to its end, the result the kernel's and the arguments as they were.
-/
module

public import proofs.«01_k».proof.Proof.Obl
public import Idealize.ShloMosaic.Lib.StableHlo.RunHlo

@[expose] public section

set_option maxRecDepth 65536

noncomputable section

namespace Cert.Proof.Spmm

open Cert.KernelIdeal Cert.KernelIdeal.Gen
open Idealize.ShloMosaic
open Idealize.ShloMosaic.SparseCore (S V T)
open Idealize.ShloMosaic.SparseCore.Cfg (HIx Pay ownBufs ownSems0 ownCells ownRefs mem_ownCells mem_ownRefs)
open Idealize.ShloMosaic.StableHlo (held after seq after_cons after_nil wp_hlo_within)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

variable (m : (ℓ : Loc nD τ sig) → Buf (Elt F) ℓ) (ρ : Dev nD → PrngReg)

/-! ## The launch element of the ghost state -/

def u₀ : UU := (initOf (K (F := F)).hsCells (K (F := F)).hsToks, 1)

theorem emps {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [emps]; iempintro
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1), emps]
  iempintro

/-! ## The TensorCore's arrays -/

abbrev tref (r : Ref sig .tc) : DevRef τ sig := Proc.devRef .tc r

abbrev S15 : Finset (DevRef τ sig) := {tref main_arg0, tref main_arg1, tref main_arg2, tref main_arg3, tref main_arg4, tref main_c, tref main_v0, tref main_v1, tref main_c_0, tref main_v2, tref main_v3, tref main_cst, tref main_v4, tref main_v5, tref main_v6}

theorem held_S15 (d : Dev nD) (W : Valuation τ sig (Elt F)) :
    (held (T d) S15 W : sProp 𝕄) = iprop(((SparseCore.T d).loc main_arg0 ↦{fullShare} W (tref main_arg0)) ∗ ((SparseCore.T d).loc main_arg1 ↦{fullShare} W (tref main_arg1)) ∗ ((SparseCore.T d).loc main_arg2 ↦{fullShare} W (tref main_arg2)) ∗ ((SparseCore.T d).loc main_arg3 ↦{fullShare} W (tref main_arg3)) ∗ ((SparseCore.T d).loc main_arg4 ↦{fullShare} W (tref main_arg4)) ∗ ((SparseCore.T d).loc main_c ↦{fullShare} W (tref main_c)) ∗ ((SparseCore.T d).loc main_v0 ↦{fullShare} W (tref main_v0)) ∗ ((SparseCore.T d).loc main_v1 ↦{fullShare} W (tref main_v1)) ∗ ((SparseCore.T d).loc main_c_0 ↦{fullShare} W (tref main_c_0)) ∗ ((SparseCore.T d).loc main_v2 ↦{fullShare} W (tref main_v2)) ∗ ((SparseCore.T d).loc main_v3 ↦{fullShare} W (tref main_v3)) ∗ ((SparseCore.T d).loc main_cst ↦{fullShare} W (tref main_cst)) ∗ ((SparseCore.T d).loc main_v4 ↦{fullShare} W (tref main_v4)) ∗ ((SparseCore.T d).loc main_v5 ↦{fullShare} W (tref main_v5)) ∗ ((SparseCore.T d).loc main_v6 ↦{fullShare} W (tref main_v6))) := by
  unfold held S15
  rw [SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), bigSep_singleton]

theorem unscopedBufs_eq (d : Dev nD) (W : (b : Ref sig .tc) → Buf (Elt F) ((d.tc : Thread nD τ).loc b)) :
    (unscopedBufs d W : sProp 𝕄) = iprop(((SparseCore.T d).loc main_arg0 ↦{fullShare} W main_arg0) ∗ ((SparseCore.T d).loc main_arg1 ↦{fullShare} W main_arg1) ∗ ((SparseCore.T d).loc main_arg2 ↦{fullShare} W main_arg2) ∗ ((SparseCore.T d).loc main_arg3 ↦{fullShare} W main_arg3) ∗ ((SparseCore.T d).loc main_arg4 ↦{fullShare} W main_arg4) ∗ ((SparseCore.T d).loc main_c ↦{fullShare} W main_c) ∗ ((SparseCore.T d).loc main_v0 ↦{fullShare} W main_v0) ∗ ((SparseCore.T d).loc main_v1 ↦{fullShare} W main_v1) ∗ ((SparseCore.T d).loc main_c_0 ↦{fullShare} W main_c_0) ∗ ((SparseCore.T d).loc main_v2 ↦{fullShare} W main_v2) ∗ ((SparseCore.T d).loc main_v3 ↦{fullShare} W main_v3) ∗ ((SparseCore.T d).loc main_cst ↦{fullShare} W main_cst) ∗ ((SparseCore.T d).loc main_v4 ↦{fullShare} W main_v4) ∗ ((SparseCore.T d).loc main_v5 ↦{fullShare} W main_v5) ∗ ((SparseCore.T d).loc main_v6 ↦{fullShare} W main_v6)) := by
  unfold unscopedBufs
  rw [show (Finset.univ.filter fun b : Ref sig .tc => ¬ b.isScoped) = {main_arg0, main_arg1, main_arg2, main_arg3, main_arg4, main_c, main_v0, main_v1, main_c_0, main_v2, main_v3, main_cst, main_v4, main_v5, main_v6} by decide,
    SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), bigSep_singleton]

/-- The memory at launch. -/
def V0 (d : Dev nD) : Valuation τ sig (Elt F) := fun b => m (d, b)

theorem unscoped_held (d : Dev nD) : (unscopedBufs d (fun b => m ((SparseCore.T d).loc b)) : sProp 𝕄) = held (T d) S15 (V0 m d) := by
  rw [unscopedBufs_eq, held_S15]; rfl

/-! ## The host lines -/

def hostOps : List (HloOp τ sig (Elt F)) := [
  StableHlo.nullary main_c (constantI S_ 32 0#32),
  StableHlo.unary main_c main_v0 (broadcastInDim S163 ![] bcast_S_S163 : (⟨S_, .i32⟩ : BufTy).Contents (Elt F) → (⟨S163, .i32⟩ : BufTy).Contents (Elt F)),
  StableHlo.binary main_arg3 main_v0 main_v1 ((fun a b => concatenate S167936 0 [⟨S167773, a⟩, ⟨S163, b⟩] concatenates_S167773_S163_S167936_d0) : (⟨S167773, .i32⟩ : BufTy).Contents (Elt F) → (⟨S163, .i32⟩ : BufTy).Contents (Elt F) → (⟨S167936, .i32⟩ : BufTy).Contents (Elt F)),
  StableHlo.nullary main_c_0 (constantI S_ 32 0#32),
  StableHlo.unary main_c_0 main_v2 (broadcastInDim S163 ![] bcast_S_S163 : (⟨S_, .i32⟩ : BufTy).Contents (Elt F) → (⟨S163, .i32⟩ : BufTy).Contents (Elt F)),
  StableHlo.binary main_arg4 main_v2 main_v3 ((fun a b => concatenate S167936 0 [⟨S167773, a⟩, ⟨S163, b⟩] concatenates_S167773_S163_S167936_d0) : (⟨S167773, .i32⟩ : BufTy).Contents (Elt F) → (⟨S163, .i32⟩ : BufTy).Contents (Elt F) → (⟨S167936, .i32⟩ : BufTy).Contents (Elt F)),
  StableHlo.nullary main_cst (constant S_ .f32 0x00000000#32),
  StableHlo.unary main_cst main_v4 (broadcastInDim S163 ![] bcast_S_S163 : (⟨S_, .f32⟩ : BufTy).Contents (Elt F) → (⟨S163, .f32⟩ : BufTy).Contents (Elt F)),
  StableHlo.binary main_arg1 main_v4 main_v5 ((fun a b => concatenate S167936 0 [⟨S167773, a⟩, ⟨S163, b⟩] concatenates_S167773_S163_S167936_d0) : (⟨S167773, .f32⟩ : BufTy).Contents (Elt F) → (⟨S163, .f32⟩ : BufTy).Contents (Elt F) → (⟨S167936, .f32⟩ : BufTy).Contents (Elt F))]

theorem main_seq (d : Dev nD) : main (F := F) d = (seq (hostOps (F := F)) >>= fun _ => (sc (F := F)).run d 0) := by
  unfold hostOps seq; rfl

theorem hostOps_sub : ∀ op ∈ hostOps (F := F), op.bufs ⊆ S15 := by
  intro op h
  fin_cases h
  all_goals first
    | exact (show ({tref main_c} : Finset (DevRef τ sig)) ⊆ S15 by decide)
    | exact (show ({tref main_c_0} : Finset (DevRef τ sig)) ⊆ S15 by decide)
    | exact (show ({tref main_cst} : Finset (DevRef τ sig)) ⊆ S15 by decide)
    | exact (show ({tref main_c, tref main_v0} : Finset (DevRef τ sig)) ⊆ S15 by decide)
    | exact (show ({tref main_c_0, tref main_v2} : Finset (DevRef τ sig)) ⊆ S15 by decide)
    | exact (show ({tref main_cst, tref main_v4} : Finset (DevRef τ sig)) ⊆ S15 by decide)
    | exact (show ({tref main_arg3, tref main_v0, tref main_v1} : Finset (DevRef τ sig)) ⊆ S15 by decide)
    | exact (show ({tref main_arg4, tref main_v2, tref main_v3} : Finset (DevRef τ sig)) ⊆ S15 by decide)
    | exact (show ({tref main_arg1, tref main_v4, tref main_v5} : Finset (DevRef τ sig)) ⊆ S15 by decide)

theorem hostOps_fresh : ∀ op ∈ hostOps (F := F), op.fresh = ∅ := by
  intro op h
  fin_cases h <;> rfl

/-- The memory when the kernel is launched. -/
def V1 (d : Dev nD) : Valuation τ sig (Elt F) := after (hostOps (F := F)) (V0 m d)

theorem V1_x (d : Dev nD) : V1 m d (tref main_arg0) = xv m d := by
  unfold V1 hostOps; after_results; try rfl
theorem V1_b (d : Dev nD) : V1 m d (tref main_arg2) = bv m d := by
  unfold V1 hostOps; after_results; try rfl
theorem V1_r (d : Dev nD) : V1 m d (tref main_v1) = rowv m d := by
  unfold V1 hostOps; after_results; try rfl
theorem V1_c (d : Dev nD) : V1 m d (tref main_v3) = colv m d := by
  unfold V1 hostOps; after_results; try rfl
theorem V1_v (d : Dev nD) : V1 m d (tref main_v5) = valv m d := by
  unfold V1 hostOps; after_results; try rfl
theorem V1_a1 (d : Dev nD) : V1 m d (tref main_arg1) = m ((SparseCore.T d).loc main_arg1) := by
  unfold V1 hostOps; after_results; try rfl
theorem V1_a3 (d : Dev nD) : V1 m d (tref main_arg3) = m ((SparseCore.T d).loc main_arg3) := by
  unfold V1 hostOps; after_results; try rfl
theorem V1_a4 (d : Dev nD) : V1 m d (tref main_arg4) = m ((SparseCore.T d).loc main_arg4) := by
  unfold V1 hostOps; after_results; try rfl

/-! ## The launch -/

theorem st0_eq (d : Dev nD) : (bigSep Finset.univ fun c : Fin ((K (F := F)).nCore 0) => (P m).st 0 d c) = iprop(stP m d 0 ∗ stP m d 1) := by
  show (bigSep (Finset.univ : Finset (Fin 2)) fun c => stP m d c.val) = _
  rw [show (Finset.univ : Finset (Fin 2)) = {0, 1} by decide, SparseCore.bigSep_insert' (by decide), bigSep_singleton]
  rfl
theorem dn0_eq (d : Dev nD) : (bigSep Finset.univ fun c : Fin ((K (F := F)).nCore 0) => (P m).dn 0 d c) = iprop(dnP m d 0 ∗ dnP m d 1) := by
  show (bigSep (Finset.univ : Finset (Fin 2)) fun c => dnP m d c.val) = _
  rw [show (Finset.univ : Finset (Fin 2)) = {0, 1} by decide, SparseCore.bigSep_insert' (by decide), bigSep_singleton]
  rfl

/-- The five arrays and the result, to the two cores, -/
theorem hand (d : Dev nD) (f : Buf (Elt F) (oL d)) :
    iprop(reads m d fullShare ∗ oL d ↦{fullShare} f) ⊢ (iprop(stP m d 0 ∗ stP m d 1) : sProp 𝕄) := by
  unfold stP cq
  have hsp := (pointsTo_split_subset (ℓ := oL d) (q := fullShare) (f := f) (Val := Elt F) (Ix := HIx 1) (Name := ℕ) (U := UU) (Lvl := ℕ) (Finset.subset_univ (coreRows 0))).1
  rw [coreRows_rest] at hsp
  iintro ⟨HR, Ho⟩
  ihave HR := (reads_share m d fullShare).1 $$ HR
  icases HR with ⟨H0, H1⟩
  ihave Ho := hsp $$ Ho
  icases Ho with ⟨Ho0, Ho1⟩
  isplitl [H0 Ho0]
  · isplitl [H0]; · iexact H0
    iexists f; iexact Ho0
  · isplitl [H1]; · iexact H1
    iexists f; iexact Ho1

/-- and back. -/
theorem handBack (d : Dev nD) :
    iprop(dnP m d 0 ∗ dnP m d 1) ⊢ (iprop(reads m d fullShare ∗ oL d ↦{fullShare} outv m d) : sProp 𝕄) := by
  unfold dnP cq
  have hsp := (pointsTo_split_subset (ℓ := oL d) (q := fullShare) (f := outv m d) (Val := Elt F) (Ix := HIx 1) (Name := ℕ) (U := UU) (Lvl := ℕ) (Finset.subset_univ (coreRows 0))).2
  rw [coreRows_rest] at hsp
  iintro ⟨⟨H0, Ho0⟩, ⟨H1, Ho1⟩⟩
  isplitl [H0 H1]
  · iapply (reads_share m d fullShare).2
    isplitl [H0]; · iexact H0
    iexact H1
  iapply hsp
  isplitl [Ho0]; · iexact Ho0
  iexact Ho1

/-- What is left of the TensorCore's arrays. -/
abbrev FIN (d : Dev nD) : sProp 𝕄 :=
  iprop(((SparseCore.T d).loc main_arg0 ↦{fullShare} m ((SparseCore.T d).loc main_arg0)) ∗ ((SparseCore.T d).loc main_arg1 ↦{fullShare} m ((SparseCore.T d).loc main_arg1))
    ∗ ((SparseCore.T d).loc main_arg2 ↦{fullShare} m ((SparseCore.T d).loc main_arg2)) ∗ ((SparseCore.T d).loc main_arg3 ↦{fullShare} m ((SparseCore.T d).loc main_arg3))
    ∗ ((SparseCore.T d).loc main_arg4 ↦{fullShare} m ((SparseCore.T d).loc main_arg4)) ∗ (oL d ↦{fullShare} outv m d))

theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscoped_held, main_seq]
  iintro ⟨#Hctx, Hst, ⟨Hb, Hheld, Hts, -⟩, -⟩
  have hseq := StableHlo.wp_seq (defs := (K (F := F)).defs (D (F := F))) (𝒱 := 𝒱) (bd := none) (E := Set.univ) (Name := ℕ) (U := UU) (Lvl := ℕ) (Ix := HIx 1) d S15
    (fun _ => (sc (F := F)).run d 0) (K := fun _ => iprop((K (F := F)).tcSt EH d 1 ∗ FIN m d ∗ (boundary (T d) ∗ (K (F := F)).tcSems0 d)))
    (hostOps (F := F)) hostOps_sub hostOps_fresh (V0 m d)
  iapply hseq $$ [Hb Hheld]
  · isplitl [Hb]; · iexact Hb
    iexact Hheld
  iintro ⟨Hb, Hheld⟩
  have hV := Entails.of_eq (held_S15 (F := F) d (V1 m d))
  rw [V1_x, V1_b, V1_r, V1_c, V1_v, V1_a1, V1_a3, V1_a4] at hV
  unfold V1 at hV
  ihave Hh := hV $$ Hheld
  icases Hh with ⟨Hmain_arg0, Hmain_arg1, Hmain_arg2, Hmain_arg3, Hmain_arg4, Hmain_c, Hmain_v0, Hmain_v1, Hmain_c_0, Hmain_v2, Hmain_v3, Hmain_cst, Hmain_v4, Hmain_v5, Hmain_v6⟩
  iapply ((K (F := F)).wp_run (D (F := F)) 𝒱 (EH := EH) (P := P m) κ d 0) $$ [Hst Hb Hts Hmain_arg0 Hmain_arg1 Hmain_arg2 Hmain_arg3 Hmain_arg4 Hmain_c Hmain_v0 Hmain_v1 Hmain_c_0 Hmain_v2 Hmain_v3 Hmain_cst Hmain_v4 Hmain_v5 Hmain_v6]
  isplitr; · iexact Hctx
  isplitl [Hst]; · iexact Hst
  isplitl [Hmain_arg0 Hmain_arg2 Hmain_v1 Hmain_v3 Hmain_v5 Hmain_v6]
  · rw [st0_eq]
    iapply (hand m d _)
    isplitr [Hmain_v6]
    · unfold reads
      isplitl [Hmain_arg0]; · iexact Hmain_arg0
      isplitl [Hmain_arg2]; · iexact Hmain_arg2
      isplitl [Hmain_v1]; · iexact Hmain_v1
      isplitl [Hmain_v3]; · iexact Hmain_v3
      iexact Hmain_v5
    iexact Hmain_v6
  iintro ⟨Hst, Hdn⟩
  ihave Hdn := (Entails.of_eq (dn0_eq m d)) $$ Hdn
  ihave Hdn := (handBack m d) $$ Hdn
  unfold reads
  icases Hdn with ⟨⟨Hx, Hbi, -⟩, Ho⟩
  isplitl [Hst]; · iexact Hst
  isplitr [Hb Hts]
  · isplitl [Hx]; · iexact Hx
    isplitl [Hmain_arg1]; · iexact Hmain_arg1
    isplitl [Hbi]; · iexact Hbi
    isplitl [Hmain_arg3]; · iexact Hmain_arg3
    isplitl [Hmain_arg4]; · iexact Hmain_arg4
    iexact Ho
  isplitl [Hb]; · iexact Hb
  iexact Hts

/-! ## The final state -/

/-- What one device's memory ends as. -/
def fq (d : Dev nD) (s' : Phys nD τ sig (Elt F)) : Prop :=
  s'.mem.mem (oL d) = outv m d
  ∧ s'.mem.mem ((SparseCore.T d).loc main_arg0) = m ((SparseCore.T d).loc main_arg0)
  ∧ s'.mem.mem ((SparseCore.T d).loc main_arg1) = m ((SparseCore.T d).loc main_arg1)
  ∧ s'.mem.mem ((SparseCore.T d).loc main_arg2) = m ((SparseCore.T d).loc main_arg2)
  ∧ s'.mem.mem ((SparseCore.T d).loc main_arg3) = m ((SparseCore.T d).loc main_arg3)
  ∧ s'.mem.mem ((SparseCore.T d).loc main_arg4) = m ((SparseCore.T d).loc main_arg4)

theorem agree (ℓ : Loc nD τ sig) (f : Buf (Elt F) ℓ) (s' : Phys nD τ sig (Elt F)) :
    iprop((ℓ ↦{fullShare} f) ∗ SI s') ⊢ (iprop(⌜s'.mem.mem ℓ = f⌝ ∗ SI s') : sProp 𝕄) := by
  iintro ⟨Hx, HSI⟩
  ihave H := (persistent_entails_right (SI_pointsTo_agree (st := s') (ℓ := ℓ) (I := Finset.univ) (q := fullShare) (f := f))) $$ [HSI Hx]
  · isplitl [HSI] <;> iassumption
  icases H with ⟨%h1, HSI, -⟩
  isplitr
  · ipureintro; exact funext fun i => h1 i (Finset.mem_univ i)
  iexact HSI

theorem hfin (d : Dev nD) (s' : Phys nD τ sig (Elt F)) : iprop(FIN m d ∗ SI s') ⊢ (⌜fq m d s'⌝ : sProp 𝕄) := by
  iintro ⟨⟨H0, H1, H2, H3, H4, Ho⟩, HSI⟩
  ihave HH := (agree ((SparseCore.T d).loc main_arg0) (m ((SparseCore.T d).loc main_arg0)) s') $$ [H0 HSI]
  · isplitl [H0] <;> iassumption
  icases HH with ⟨%h0, HSI⟩
  ihave HH := (agree ((SparseCore.T d).loc main_arg1) (m ((SparseCore.T d).loc main_arg1)) s') $$ [H1 HSI]
  · isplitl [H1] <;> iassumption
  icases HH with ⟨%h1, HSI⟩
  ihave HH := (agree ((SparseCore.T d).loc main_arg2) (m ((SparseCore.T d).loc main_arg2)) s') $$ [H2 HSI]
  · isplitl [H2] <;> iassumption
  icases HH with ⟨%h2, HSI⟩
  ihave HH := (agree ((SparseCore.T d).loc main_arg3) (m ((SparseCore.T d).loc main_arg3)) s') $$ [H3 HSI]
  · isplitl [H3] <;> iassumption
  icases HH with ⟨%h3, HSI⟩
  ihave HH := (agree ((SparseCore.T d).loc main_arg4) (m ((SparseCore.T d).loc main_arg4)) s') $$ [H4 HSI]
  · isplitl [H4] <;> iassumption
  icases HH with ⟨%h4, HSI⟩
  ihave HH := (agree (oL d) (outv m d) s') $$ [Ho HSI]
  · isplitl [Ho] <;> iassumption
  icases HH with ⟨%ho, HSI⟩
  ipureintro
  exact ⟨ho, h0, h1, h2, h3, h4⟩

/-- How the program ends. -/
def QC : PUnit × MemSt nD τ sig (Elt F) → Prop := fun r => (∀ c : Dev nD,
  r.2.mem (oL c) = outv m c
  ∧ r.2.mem ((SparseCore.T c).loc main_arg0) = m ((SparseCore.T c).loc main_arg0)
  ∧ r.2.mem ((SparseCore.T c).loc main_arg1) = m ((SparseCore.T c).loc main_arg1)
  ∧ r.2.mem ((SparseCore.T c).loc main_arg2) = m ((SparseCore.T c).loc main_arg2)
  ∧ r.2.mem ((SparseCore.T c).loc main_arg3) = m ((SparseCore.T c).loc main_arg3)
  ∧ r.2.mem ((SparseCore.T c).loc main_arg4) = m ((SparseCore.T c).loc main_arg4)) ∧ r.2.sem = fun _ => 0

theorem run_main [∀ e, Nonempty (Elt F e)] (hpre : PreOK m) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) scFacts v₀
    (fun q hq => match q with | 0 => nomatch hq)
    (fun q _ => match q with | 0 => tileObl m hpre)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m) (fun _ h hz => ⟨h, hz⟩)

end Cert.Proof.Spmm
-- ==== Proof.Pad.lean ====
/-
  The padded edge lists, element by element, and what the precondition says of them.
-/
module

public import proofs.«01_k».proof.Proof.Pay
public import proofs.«01_k».proof.Proof.Gen.Pre_in_range
public import Idealize.ShloMosaic.Lib.ReduceAll
public import Idealize.ShloMosaic.Lib.Affine
public import Idealize.ShloMosaic.Lib.Pointwise.SelectCore

@[expose] public section

noncomputable section

namespace Cert.Proof.Spmm

open Cert.KernelIdeal Cert.KernelIdeal.Gen
open Idealize.ShloMosaic

variable {F : FTy → Type} [FloatOps F]

/-! ## The padded lists -/

/-- Element `e` of an unpadded list. -/
abbrev real (e : ℕ) : S167773.Idx := at1 (n := 167773) (by decide) e

theorem pad_real {α : Type} (a : S167773.Idx → α) (z : S163.Idx → α) (e : ℕ) (he : e < 167773) :
    concatenate S167936 0 [⟨S167773, a⟩, ⟨S163, z⟩] concatenates_S167773_S163_S167936_d0 (edge e) = a (real e) := by
  refine concatenate_pair_apply_left (t := S167936) (s₁ := S167773) (s₂ := S163) 0 a z _ (edge e) rfl (real e) (fun b => ?_)
  have h1 := at1_val (n := 167773) (by decide) e he b
  have h2 := at1_val (n := 167936) (by decide) e (by omega) (b.cast rfl)
  exact h1.trans h2.symm

theorem pad_rest {α : Type} (a : S167773.Idx → α) (z : S163.Idx → α) (c : α) (hz : ∀ i, z i = c) (e : ℕ) (he : 167773 ≤ e) (he' : e < 167936) :
    concatenate S167936 0 [⟨S167773, a⟩, ⟨S163, z⟩] concatenates_S167773_S163_S167936_d0 (edge e) = c := by
  rw [concatenate_pair_apply]
  have h2 := at1_val (n := 167936) (by decide) e he' 0
  split
  · rename_i hlt
    have hlt' : (edge e 0).val < 167773 := hlt
    have h3 : (edge e 0).val = e := h2
    omega
  · exact hz _

theorem pad_of {α : Type} (p : α → Prop) (a : S167773.Idx → α) (z : S163.Idx → α) (ha : ∀ i, p (a i)) (hz : ∀ i, p (z i)) (j : S167936.Idx) :
    p (concatenate S167936 0 [⟨S167773, a⟩, ⟨S163, z⟩] concatenates_S167773_S163_S167936_d0 j) := by
  rw [concatenate_pair_apply]
  split
  · exact ha _
  · exact hz _

theorem padI_real (a : S167773.Idx → BitVec 32) (e : ℕ) (he : e < 167773) : padI a (edge e) = a (real e) := pad_real _ _ e he
theorem padI_rest (a : S167773.Idx → BitVec 32) (e : ℕ) (he : 167773 ≤ e) (he' : e < 167936) : padI a (edge e) = 0#32 :=
  pad_rest _ _ _ (fun _ => rfl) e he he'
theorem padI_lt (a : S167773.Idx → BitVec 32) (h : ∀ i, (a i).toNat < 4096) (j : S167936.Idx) : (padI a j).toNat < 4096 :=
  pad_of (fun w : BitVec 32 => w.toNat < 4096) _ _ h (fun _ => by show (0#32).toNat < 4096; decide) j
theorem padF_real (a : S167773.Idx → Elt F .f32) (e : ℕ) (he : e < 167773) : padF (F := F) a (edge e) = a (real e) := pad_real _ _ e he
theorem padF_rest (a : S167773.Idx → Elt F .f32) (e : ℕ) (he : 167773 ≤ e) (he' : e < 167936) :
    padF (F := F) a (edge e) = (FloatOps.ofBits .f32 0x00000000#32 : F .f32) :=
  pad_rest _ _ _ (fun _ => rfl) e he he'

/-! ## The precondition -/

theorem word_lt (w : BitVec 32) (h0 : IntOp.cmpi .sge w 0#32 = 1#1) (h1 : IntOp.cmpi .slt w 4096#32 = 1#1) : w.toNat < 4096 := by
  rw [IntOp.cmpi_sge] at h0
  rw [IntOp.cmpi_slt] at h1
  have e0 : (0#32 : BitVec 32).toInt = 0 := by decide
  have e1 : (4096#32 : BitVec 32).toInt = 4096 := by decide
  rw [e0] at h0; rw [e1] at h1
  have e2 := BitVec.toInt_eq_toNat_cond w
  have := w.isLt
  split at e2 <;> omega

theorem and_one (a b : BitVec 1) (h : IntOp.andi a b = 1#1) : a = 1#1 ∧ b = 1#1 := by
  revert a b; decide

theorem below_of_pre (a0 : FVec F S256x4096 .f32) (a1 : FVec F S167773 .f32) (a2 : FVec F S4096 .f32) (a3 a4 : IVec S167773 32)
    (h : Cert.Pre_in_range.fn (F := F) a0 a1 a2 a3 a4 = fun _ => 1#1) :
    (∀ i, (a3 i).toNat < 4096) ∧ ∀ i, (a4 i).toNat < 4096 := by
  have hh := congrFun h (fun a => a.elim0)
  haveI : Subsingleton Cert.Pre_in_range.S_.Idx := ⟨fun a b => funext fun x => x.elim0⟩
  dsimp only [Cert.Pre_in_range.fn] at hh
  obtain ⟨hh, h4⟩ := and_one _ _ hh
  obtain ⟨hh, h3⟩ := and_one _ _ hh
  obtain ⟨h1, h2⟩ := and_one _ _ hh
  exact ⟨fun i => word_lt _ (Host.reduce_andi_all _ _ _ _ _ h1 i) (Host.reduce_andi_all _ _ _ _ _ h2 i),
    fun i => word_lt _ (Host.reduce_andi_all _ _ _ _ _ h3 i) (Host.reduce_andi_all _ _ _ _ _ h4 i)⟩

end Cert.Proof.Spmm
-- ==== Proof.Frames.lean ====
/-
  The two frame claims about the kernel: the printed program and its ideal reading are one text, so one run serves both.
-/
module

public import proofs.«01_k».proof.Proof.Launch
public import proofs.«01_k».proof.Proof.Pad
public import proofs.«01_k».proof.Proof.Gen.Kernel

@[expose] public section

set_option maxRecDepth 65536

noncomputable section

namespace Cert.Proof.Spmm

open Cert.KernelIdeal Cert.KernelIdeal.Gen
open Idealize.ShloMosaic Idealize.SL.Sem

variable {F : FTy → Type} [FloatOps F]

/-- Row and column numbers in range are all the run asks. -/
theorem preOK_of (m : (ℓ : Loc nD τ sig) → Buf (Elt F) ℓ)
    (h : ∀ c : Dev nD, (∀ i, ((m ((SparseCore.T c).loc main_arg3) : S167773.Idx → BitVec 32) i).toNat < 4096)
      ∧ ∀ i, ((m ((SparseCore.T c).loc main_arg4) : S167773.Idx → BitVec 32) i).toNat < 4096) : PreOK m :=
  fun d => ⟨fun e => padI_lt _ (h d).1 e, fun e => padI_lt _ (h d).2 e⟩

theorem preOK_ideal (m : (ℓ : Loc nD τ sig) → Buf (Elt Ideal) ℓ) (h : Cert.Pre_KernelIdeal m) : PreOK m :=
  preOK_of m fun c => below_of_pre (F := Ideal) _ _ _ _ _ (h c)

theorem preOK_bits (m : (ℓ : Loc nD τ sig) → Buf (Elt Bits) ℓ) (h : Cert.Pre_Kernel m) : PreOK m :=
  preOK_of m fun c => below_of_pre (F := Bits) _ _ _ _ _ (h c)

theorem frame_kernelIdeal : Cert.quiescent_KernelIdeal := fun m ρ h =>
  (θ_run Cert.KernelIdeal.defs _ _).mono (fun _ h => ⟨fun c => (h.1 c).2, h.2⟩) (run_main m ρ (preOK_ideal m h))

theorem frame_kernel : Cert.quiescent_Kernel := fun m ρ h =>
  (θ_run Cert.KernelIdeal.defs _ _).mono (fun _ h => ⟨fun c => (h.1 c).2, h.2⟩) (run_main (F := Bits) m ρ (preOK_bits m h))

end Cert.Proof.Spmm
-- ==== Proof.Reference.lean ====
module

public import proofs.«01_k».proof.Proof.Gen.ReferenceIdeal.Run
public import proofs.«01_k».proof.Defs
public import Idealize.ShloMosaic.Lib.Quiescent

/-! The reference's frame: it is host operations only, so its run is the generated one, and it declares no semaphore. -/

@[expose] public section

set_option maxRecDepth 65536

noncomputable section

namespace Cert.Proof.Spmm

open Idealize.ShloMosaic Idealize.SL.Sem Cert.ReferenceIdeal.Gen

/-- The reference terminates from any memory, its arguments unchanged and every counter at zero. -/
theorem frame_reference : Cert.quiescent_ReferenceIdeal := fun m ρ _ =>
  (θ_run Cert.ReferenceIdeal.defs _ _).mono
    (fun r h => ⟨fun c => (h c).2, sem_eq_zero_of_no_sems (by decide) r.2⟩)
    (Cert.ReferenceIdeal.Value.run (F := Ideal) m ρ)

/-- The same where the precondition is also told. -/
theorem frame_reference_pre [Cert.Pre_in_range.Facts] : Cert.quiescent_ReferenceIdeal_pre_in_range := fun m ρ _ =>
  (θ_run Cert.ReferenceIdeal.defs _ _).mono
    (fun r h => ⟨fun c => (h c).2, sem_eq_zero_of_no_sems (by decide) r.2⟩)
    (Cert.ReferenceIdeal.Value.run (F := Ideal) m ρ)

end Cert.Proof.Spmm
-- ==== Proof.Sum.lean ====
/-
  The kernel's result element as a sum, floats read as extended reals: the bias and, over the edges into its column, the
  products. The 163 edges that pad the list add products with zero and so nothing.
-/
module

public import proofs.«01_k».proof.Proof.Copies
public import proofs.«01_k».proof.Proof.Pad
public import Idealize.ShloMosaic.PureOps.Ideal.Laws

@[expose] public section

noncomputable section

namespace Cert.Proof.Spmm

open Cert.KernelIdeal Cert.KernelIdeal.Gen
open Idealize.ShloMosaic

variable (x : S256x4096.Idx → Elt Ideal .f32) (bias : S4096.Idx → Elt Ideal .f32)

/-- What edge `e` adds to element `(b, r)`, as an extended real: its product where it goes to `r`, else nothing. -/
def term (row col : S167936.Idx → BitVec 32) (val : S167936.Idx → Elt Ideal .f32) (b r e : ℕ) : EReal :=
  if (row (edge e)).toNat = r then (contrib x col val b e : EReal) else 0

/-- The running element is the bias and the terms so far. -/
theorem elemAt_sum (row col : S167936.Idx → BitVec 32) (val : S167936.Idx → Elt Ideal .f32) (b r n : ℕ) :
    (elemAt x bias row col val b r n : EReal)
      = (bias (at1 (n := 4096) (by decide) r) : EReal) + ∑ e ∈ Finset.range n, term x row col val b r e := by
  induction n with
  | zero => rw [Finset.range_zero, Finset.sum_empty, add_zero]; rfl
  | succ n ih =>
    rw [Finset.sum_range_succ, elemAt, ← add_assoc, ← ih]
    unfold term
    split
    · rfl
    · rw [add_zero]

/-- An edge of the padding adds nothing. -/
theorem term_rest (a1 : S167773.Idx → Elt Ideal .f32) (a3 a4 : S167773.Idx → BitVec 32) (b r e : ℕ) (he : 167773 ≤ e) (he' : e < 167936) :
    term x (padI a3) (padI a4) (padF a1) b r e = 0 := by
  unfold term
  split
  · have h0 : (padF a1 (edge e) : EReal) = 0 := by
      rw [padF_rest (F := Ideal) a1 e he he']
      exact Idealize.ShloMosaic.Ideal.ofBits_zero_f32
    show ((x (at2 b (padI a4 (edge e)).toNat) : EReal) * (padF a1 (edge e) : EReal)) = 0
    rw [h0, mul_zero]
  · rfl

/-- An edge of the list adds its product where it goes to `r`. -/
theorem term_real (a1 : S167773.Idx → Elt Ideal .f32) (a3 a4 : S167773.Idx → BitVec 32) (b r e : ℕ) (he : e < 167773) :
    term x (padI a3) (padI a4) (padF a1) b r e
      = if (a3 (real e)).toNat = r then ((x (at2 b (a4 (real e)).toNat) : EReal) * (a1 (real e) : EReal)) else 0 := by
  unfold term contrib
  rw [padI_real a3 e he, padI_real a4 e he, padF_real (F := Ideal) a1 e he]
  rfl

/-- A sum over more numbers whose further terms are zero. -/
theorem sum_longer (f : ℕ → EReal) (n k : ℕ) (hnk : n ≤ k) (h : ∀ e, n ≤ e → e < k → f e = 0) :
    ∑ e ∈ Finset.range k, f e = ∑ e ∈ Finset.range n, f e :=
  (Finset.sum_subset (Finset.range_subset_range.2 hnk) fun e he he' =>
    h e (Nat.le_of_not_lt fun hlt => he' (Finset.mem_range.2 hlt)) (Finset.mem_range.1 he)).symm

/-- The kernel's result over the padded list, as a sum over the list itself. -/
theorem outAt_sum (a1 : S167773.Idx → Elt Ideal .f32) (a3 a4 : S167773.Idx → BitVec 32) (j : S256x4096.Idx) :
    (outAt x bias (padI a3) (padI a4) (padF a1) j : EReal)
      = (bias (at1 (n := 4096) (by decide) (j 1).val) : EReal)
        + ∑ e ∈ Finset.range 167773, if (a3 (real e)).toNat = (j 1).val
            then ((x (at2 (j 0).val (a4 (real e)).toNat) : EReal) * (a1 (real e) : EReal)) else 0 := by
  unfold outAt
  rw [elemAt_sum, sum_longer _ 167773 167936 (by omega) fun e he he' => term_rest x a1 a3 a4 _ _ e he he']
  refine congrArg _ (Finset.sum_congr rfl fun e he => ?_)
  exact term_real x a1 a3 a4 _ _ e (Finset.mem_range.1 he)

end Cert.Proof.Spmm
-- ==== Proof.RefValue.lean ====
/-
  The reference's result element: what its gather reads and where its scatter-add lands, when every row and column
  number is below 4096, and from them the same sum the kernel computes.
-/
module

public import proofs.«01_k».proof.Proof.Sum
public import proofs.«01_k».proof.Proof.Gen.ReferenceIdeal
public import Idealize.ShloMosaic.Lib.ValueIdxCore
public import Idealize.ShloMosaic.Lib.Routing.OpsPair

@[expose] public section

noncomputable section

namespace Cert.Proof.Spmm

open Cert.ReferenceIdeal Cert.ReferenceIdeal.Gen
open Idealize.ShloMosaic

/-- The shapes of the reference's gather and of its scatter-add. -/
abbrev gd := gather_S256x4096_S167773x1_S256x167773_0_1_n_n_1_1_2561
abbrev sd := scatter_S4096x256_S167773x1_S167773x256_1_0_0_1

/-- Element `(e, 0)` of a column of words. -/
def colIdx (e : Fin 167773) : S167773x1.Idx := fun a => match a with | 0 => e | 1 => ⟨0, Nat.one_pos⟩
/-- Element `(b, e)` of the edges' products, -/
def byRow (b : Fin 256) (e : Fin 167773) : S256x167773.Idx := fun a => match a with | 0 => b | 1 => e
/-- and `(e, b)` of them turned. -/
def byEdge (e : Fin 167773) (b : Fin 256) : S167773x256.Idx := fun a => match a with | 0 => e | 1 => b
/-- Element `(r, b)` of the turned result. -/
def turned (r : Fin 4096) (b : Fin 256) : S4096x256.Idx := fun a => match a with | 0 => r | 1 => b

/-- A word below 4096 read signed is itself. -/
theorem toInt_small (w : BitVec 32) (h : w.toNat < 4096) : w.toInt = (w.toNat : ℤ) := by
  rw [BitVec.toInt_eq_toNat_cond, if_pos (by omega)]

/-- The gather reads batch row `b` at the edge's column number. -/
theorem gather_at {α : Type} (x : S256x4096.Idx → α) (idx : S167773x1.Idx → BitVec 32) (b : Fin 256) (e : Fin 167773)
    (h : (idx (colIdx e)).toNat < 4096) :
    Host.gather gd x idx (byRow b e) = x (at2 b.val (idx (colIdx e)).toNat) := by
  unfold Host.gather
  refine congrArg x (funext fun a => Fin.ext ?_)
  have hsi : ∀ c, gd.siIdx (byRow b e) c = colIdx e := by
    intro c
    funext k; refine Fin.ext ?_
    match k with
    | ⟨0, _⟩ => rfl
    | ⟨1, _⟩ => have := c.isLt; show c.val = 0; exact Nat.lt_one_iff.1 c.isLt
  match a with
  | ⟨0, _⟩ =>
    show GatherDims.start _ (byRow b e) idx 0 + GatherDims.batchCoord _ (byRow b e) 0 + GatherDims.offCoord _ (byRow b e) 0 = b.val % 256
    rw [GatherDims.batchCoord_eq_zero _ _ _ List.not_mem_nil]
    unfold GatherDims.start
    rw [dif_neg (show ¬ (0 : Fin 2) ∈ gd.startIndexMap from (by decide : ¬ (0 : Fin 2) ∈ [(1 : Fin 2)])), Nat.mod_eq_of_lt b.isLt, Nat.zero_add]
    rfl
  | ⟨1, _⟩ =>
    show GatherDims.start _ (byRow b e) idx 1 + GatherDims.batchCoord _ (byRow b e) 1 + GatherDims.offCoord _ (byRow b e) 1 = (idx (colIdx e)).toNat % 4096
    rw [GatherDims.batchCoord_eq_zero _ _ _ List.not_mem_nil,
      GatherDims.offCoord_eq_zero _ _ _ (fun h => ((GatherDims.mem_sKept _ _).mp h).1 (List.mem_singleton.mpr rfl))]
    unfold GatherDims.start
    rw [dif_pos (show (1 : Fin 2) ∈ gd.startIndexMap from List.mem_singleton.mpr rfl), hsi, toInt_small _ h, Nat.mod_eq_of_lt h]
    show min ((idx (colIdx e)).toNat : ℤ).toNat (4096 - 1) + 0 + 0 = _
    rw [Int.toNat_natCast]; omega

/-- Edge `e`'s product for batch row `b` lands at the edge's row number. -/
theorem lands (idx : S167773x1.Idx → BitVec 32) (e : Fin 167773) (b : Fin 256) (h : (idx (colIdx e)).toNat < 4096) (r : Fin 4096) (b' : Fin 256) :
    sd.resultIdx? (byEdge e b) idx = some (turned r b')
      ↔ (idx (colIdx e)).toNat = r.val ∧ b = b' := by
  have hsi : ∀ c, sd.siIdx (byEdge e b) c = colIdx e := by
    intro c
    funext k; refine Fin.ext ?_
    match k with
    | ⟨0, _⟩ => rfl
    | ⟨1, _⟩ => show c.val = 0; exact Nat.lt_one_iff.1 c.isLt
  have s0 : sd.start (byEdge e b) idx 0 = ((idx (colIdx e)).toNat : ℤ) := by
    unfold ScatterDims.start
    rw [dif_pos (show (0 : Fin 2) ∈ sd.scatterDimsToOperandDims from List.mem_singleton.mpr rfl), hsi, toInt_small _ h]
  have s1 : sd.start (byEdge e b) idx 1 = 0 := by
    unfold ScatterDims.start
    rw [dif_neg (show ¬ (1 : Fin 2) ∈ sd.scatterDimsToOperandDims from (by decide : ¬ (1 : Fin 2) ∈ [(0 : Fin 2)]))]
  have w0 : sd.window (byEdge e b) 0 = 0 := rfl
  have w1 : sd.window (byEdge e b) 1 = b.val := rfl
  rw [Idealize.ShloMosaic.Routing.resultIdx?_eq_some]
  constructor
  · intro q
    have q0 := q 0
    have q1 := q 1
    rw [s0, w0] at q0
    rw [s1, w1] at q1
    have e0 : ((turned r b') 0).val = r.val := rfl
    have e1 : ((turned r b') 1).val = b'.val := rfl
    rw [e0] at q0; rw [e1] at q1
    exact ⟨by omega, Fin.ext (by omega)⟩
  · rintro ⟨q0, rfl⟩ a
    match a with
    | ⟨0, _⟩ =>
      refine (congrArg₂ (fun (u : ℤ) (v : ℕ) => u + (v : ℤ)) s0 w0).trans ?_
      show ((idx (colIdx e)).toNat : ℤ) + ((0 : ℕ) : ℤ) = (r.val : ℤ)
      omega
    | ⟨1, _⟩ =>
      refine (congrArg₂ (fun (u : ℤ) (v : ℕ) => u + (v : ℤ)) s1 w1).trans ?_
      show (0 : ℤ) + (b.val : ℤ) = (b.val : ℤ)
      omega

/-! ## The operations between, read at an element -/

variable (x : FVec Ideal S256x4096 .f32) (a1 : FVec Ideal S167773 .f32) (a2 : FVec Ideal S4096 .f32) (a3 a4 : IVec S167773 32)

/-- A column number in range is not wrapped. -/
theorem wrap_id (h4 : ∀ i, (a4 i).toNat < 4096) :
    select (cmpi .slt a4 (broadcastInDim S167773 ![] bcast_S_S167773 (constantI S_ 32 0#32)))
      (addi a4 (broadcastInDim S167773 ![] bcast_S_S167773 (constantI S_ 32 4096#32))) a4 = a4 := by
  funext i
  have := h4 i
  exact Idealize.ShloMosaic.Routing.wrap_of_lt (a4 i) _ (by show (a4 i).toNat < 2 ^ 31; omega)

/-- The list as a column. -/
theorem column_at {α : Type} (a : S167773.Idx → α) (e : Fin 167773) :
    broadcastInDim S167773x1 ![0] bcast_S167773_S167773x1_0 a (colIdx e) = a (real e.val) := by
  unfold broadcastInDim
  refine congrArg a ?_
  symm
  refine at1_eq (n := 167773) (by decide) _ e.val ?_
  rw [dif_neg (show ¬ S167773.size 0 = 1 from (by decide : ¬ (167773 : ℕ) = 1))]
  rfl

/-- The values along every batch row. -/
theorem values_at {α : Type} (a : S167773.Idx → α) (b : Fin 256) (e : Fin 167773) :
    broadcastInDim S256x167773 ![0, 1] bcast_S1x167773_S256x167773_0_1 (broadcastInDim S1x167773 ![1] bcast_S167773_S1x167773_1 a) (byRow b e)
      = a (real e.val) := by
  unfold broadcastInDim
  refine congrArg a ?_
  symm
  refine at1_eq (n := 167773) (by decide) _ e.val ?_
  rfl

/-- The bias along every batch column. -/
theorem bias_at {α : Type} (a : S4096.Idx → α) (r : Fin 4096) (b : Fin 256) :
    broadcastInDim S4096x256 ![0, 1] bcast_S4096x1_S4096x256_0_1 (broadcastInDim S4096x1 ![0] bcast_S4096_S4096x1_0 a) (turned r b)
      = a (at1 (n := 4096) (by decide) r.val) := by
  unfold broadcastInDim
  refine congrArg a ?_
  symm
  refine at1_eq (n := 4096) (by decide) _ r.val ?_
  rfl

/-- The products turned. -/
theorem turn_at {α : Type} (p : S256x167773.Idx → α) (e : Fin 167773) (b : Fin 256) :
    transpose S167773x256 [1, 0] p transposes_S256x167773_S167773x256_1_0 (byEdge e b) = p (byRow b e) := by
  unfold transpose
  refine congrArg p (funext fun k => Fin.ext ?_)
  match k with
  | ⟨0, _⟩ => rfl
  | ⟨1, _⟩ => rfl

/-- The result turned back. -/
theorem back_at {α : Type} (p : S4096x256.Idx → α) (j : S256x4096.Idx) :
    transpose S256x4096 [1, 0] p transposes_S4096x256_S256x4096_1_0 j = p (turned (j 1) (j 0)) := by
  unfold transpose
  refine congrArg p (funext fun k => Fin.ext ?_)
  match k with
  | ⟨0, _⟩ => rfl
  | ⟨1, _⟩ => rfl

/-! ## The reference's result -/

/-- The products, edges down and batch rows across. -/
def products : FVec Ideal S167773x256 .f32 :=
  transpose S167773x256 [1, 0] (mulf (Host.gather gd x (broadcastInDim S167773x1 ![0] bcast_S167773_S167773x1_0
      (select (cmpi .slt a4 (broadcastInDim S167773 ![] bcast_S_S167773 (constantI S_ 32 0#32)))
        (addi a4 (broadcastInDim S167773 ![] bcast_S_S167773 (constantI S_ 32 4096#32))) a4)))
    (broadcastInDim S256x167773 ![0, 1] bcast_S1x167773_S256x167773_0_1 (broadcastInDim S1x167773 ![1] bcast_S167773_S1x167773_1 a1)))
    transposes_S256x167773_S167773x256_1_0

/-- What the reference leaves of its arguments. -/
def refOut : FVec Ideal S256x4096 .f32 :=
  transpose S256x4096 [1, 0] (addf (Host.scatterAdd sd (broadcastInDim S4096x256 ![] bcast_S_S4096x256 (constant S_ .f32 0x00000000#32))
      (broadcastInDim S167773x1 ![0] bcast_S167773_S167773x1_0 a3) (products x a1 a4))
    (broadcastInDim S4096x256 ![0, 1] bcast_S4096x1_S4096x256_0_1 (broadcastInDim S4096x1 ![0] bcast_S4096_S4096x1_0 a2)))
    transposes_S4096x256_S256x4096_1_0

/-- A scatter-add and an addition read at an element. -/
theorem sum_at (z v : FVec Ideal S4096x256 .f32) (idx : IVec S167773x1 32) (u : FVec Ideal S167773x256 .f32) (i : S4096x256.Idx) :
    (addf (Host.scatterAdd sd z idx u) v i : EReal)
      = ((z i : EReal) + ∑ j ∈ Finset.univ.filter (fun j => sd.resultIdx? j idx = some i), (u j : EReal)) + (v i : EReal) := rfl

theorem products_at (h4 : ∀ i, (a4 i).toNat < 4096) (e : Fin 167773) (b : Fin 256) :
    (products x a1 a4 (byEdge e b) : EReal) = (x (at2 b.val (a4 (real e.val)).toNat) : EReal) * (a1 (real e.val) : EReal) := by
  unfold products
  rw [wrap_id a4 h4, turn_at]
  have hc := column_at a4 e
  have hg := gather_at x (broadcastInDim S167773x1 ![0] bcast_S167773_S167773x1_0 a4) b e (by rw [hc]; exact h4 _)
  rw [hc] at hg
  exact congrArg₂ (fun u v : EReal => u * v) hg (values_at a1 b e)

/-- The updates that land at `(r, b)`, summed over the edges by number. -/
theorem landed_sum (h3 : ∀ i, (a3 i).toNat < 4096) (f : S167773x256.Idx → EReal) (g : ℕ → EReal) (r : Fin 4096) (b : Fin 256)
    (hg : ∀ e : Fin 167773, f (byEdge e b) = g e.val) :
    (∑ j ∈ Finset.univ.filter (fun j => sd.resultIdx? j (broadcastInDim S167773x1 ![0] bcast_S167773_S167773x1_0 a3) = some (turned r b)), f j)
      = ∑ e ∈ Finset.range 167773, if (a3 (real e)).toNat = r.val then g e else 0 := by
  have hl : ∀ (e : Fin 167773) (b' : Fin 256),
      sd.resultIdx? (byEdge e b') (broadcastInDim S167773x1 ![0] bcast_S167773_S167773x1_0 a3) = some (turned r b)
        ↔ (a3 (real e.val)).toNat = r.val ∧ b' = b := by
    intro e b'
    have hc := column_at a3 e
    rw [lands _ e b' (by rw [hc]; exact h3 _) r b, hc]
  have hj : ∀ j : S167773x256.Idx, ∃ (e : Fin 167773) (b' : Fin 256), byEdge e b' = j :=
    fun j => ⟨j 0, j 1, funext fun k => match k with | ⟨0, _⟩ => rfl | ⟨1, _⟩ => rfl⟩
  rw [← Finset.sum_filter]
  refine Finset.sum_bij' (fun j _ => (j 0).val) (fun e he => byEdge ⟨e, Finset.mem_range.1 (Finset.mem_filter.1 he).1⟩ b) ?_ ?_ ?_ ?_ ?_
  · intro j h
    obtain ⟨e, b', rfl⟩ := hj j
    exact Finset.mem_filter.2 ⟨Finset.mem_range.2 e.isLt, ((hl e b').1 (Finset.mem_filter.1 h).2).1⟩
  · intro e he
    exact Finset.mem_filter.2 ⟨Finset.mem_univ _, (hl _ b).2 ⟨(Finset.mem_filter.1 he).2, rfl⟩⟩
  · intro j h
    obtain ⟨e, b', rfl⟩ := hj j
    obtain ⟨-, rfl⟩ := (hl e b').1 (Finset.mem_filter.1 h).2
    rfl
  · intro e he; rfl
  · intro j h
    obtain ⟨e, b', rfl⟩ := hj j
    obtain ⟨-, rfl⟩ := (hl e b').1 (Finset.mem_filter.1 h).2
    exact hg e

/-- The reference and the kernel leave the same, when every row and column number is in range. -/
theorem refOut_eq (h3 : ∀ i, (a3 i).toNat < 4096) (h4 : ∀ i, (a4 i).toNat < 4096) :
    refOut x a1 a2 a3 a4 = outAt (F := Ideal) x a2 (padI a3) (padI a4) (padF a1) := by
  funext j
  refine Eq.trans ?_ (outAt_sum x a2 a1 a3 a4 j).symm
  unfold refOut
  rw [back_at]
  have hz : (broadcastInDim S4096x256 ![] bcast_S_S4096x256 (constant (F := Ideal) S_ .f32 0x00000000#32) (turned (j 1) (j 0)) : EReal) = 0 :=
    Idealize.ShloMosaic.Ideal.ofBits_zero_f32
  have hs := landed_sum a3 h3 (products x a1 a4) (fun e => (x (at2 (j 0).val (a4 (real e)).toNat) : EReal) * (a1 (real e) : EReal)) (j 1) (j 0)
    (fun e => products_at x a1 a4 h4 e (j 0))
  have hb := bias_at a2 (j 1) (j 0)
  refine (sum_at _ _ _ _ _).trans ?_
  refine (congrArg₂ (fun u v : EReal => u + v) (congrArg₂ (fun u v : EReal => u + v) hz hs) hb).trans ?_
  rw [zero_add, add_comm]

end Cert.Proof.Spmm
-- ==== Proof.Algebraic.lean ====
/-
  Over the extended reals the kernel and the reference leave the same result.
-/
module

public import proofs.«01_k».proof.Proof.Frames
public import proofs.«01_k».proof.Proof.RefValue
public import proofs.«01_k».proof.Proof.Gen.ReferenceIdeal.Run

@[expose] public section

set_option maxRecDepth 65536

noncomputable section

namespace Cert.Proof.Spmm

open Idealize.ShloMosaic Idealize.SL.Sem

/-- The precondition, of the arguments the reference is given. -/
theorem below (m : (ℓ : Loc Cert.KernelIdeal.nD Cert.KernelIdeal.τ Cert.KernelIdeal.sig) → Buf (Elt Ideal) ℓ) (h : Cert.Pre_KernelIdeal m)
    (c : Dev Cert.KernelIdeal.nD) :
    (∀ i, ((m ((SparseCore.T c).loc Cert.KernelIdeal.main_arg3) : Cert.KernelIdeal.S167773.Idx → BitVec 32) i).toNat < 4096)
      ∧ ∀ i, ((m ((SparseCore.T c).loc Cert.KernelIdeal.main_arg4) : Cert.KernelIdeal.S167773.Idx → BitVec 32) i).toNat < 4096 :=
  below_of_pre (F := Ideal) _ _ _ _ _ (h c)

/-- The reference's result of the kernel's arguments is the kernel's. -/
theorem refOut_outv (m : (ℓ : Loc Cert.KernelIdeal.nD Cert.KernelIdeal.τ Cert.KernelIdeal.sig) → Buf (Elt Ideal) ℓ) (h : Cert.Pre_KernelIdeal m)
    (c : Dev Cert.KernelIdeal.nD) :
    refOut (m ((SparseCore.T c).loc Cert.KernelIdeal.main_arg0)) (m ((SparseCore.T c).loc Cert.KernelIdeal.main_arg1))
      (m ((SparseCore.T c).loc Cert.KernelIdeal.main_arg2)) (m ((SparseCore.T c).loc Cert.KernelIdeal.main_arg3))
      (m ((SparseCore.T c).loc Cert.KernelIdeal.main_arg4)) = outv m c :=
  refOut_eq _ _ _ _ _ (below m h c).1 (below m h c).2

/-- Equal arguments, equal results. -/
theorem refOut_congr {x x' : FVec Ideal Cert.ReferenceIdeal.S256x4096 .f32} {a a' : FVec Ideal Cert.ReferenceIdeal.S167773 .f32}
    {b b' : FVec Ideal Cert.ReferenceIdeal.S4096 .f32} {r r' k k' : IVec Cert.ReferenceIdeal.S167773 32}
    (h0 : x' = x) (h1 : a' = a) (h2 : b' = b) (h3 : r' = r) (h4 : k' = k) : refOut x' a' b' r' k' = refOut x a b r k := by
  subst h0 h1 h2 h3 h4; rfl

theorem alg : Cert.algebraic_KernelIdeal_ReferenceIdeal := by
  intro m g m' g' hpre hag
  refine ⟨fun c => outv m c, ?_, ?_⟩
  · exact (θ_run Cert.KernelIdeal.defs _ _).mono (fun _ h c => h.1 c) (run_main m g (preOK_ideal m hpre))
  · refine (θ_run Cert.ReferenceIdeal.defs _ _).mono (fun r h c => ⟨?_, (h c).2⟩) (Cert.ReferenceIdeal.Value.run (F := Ideal) m' g')
    obtain ⟨h0, h1, h2, h3, h4⟩ := hag c
    exact (h c).1.trans ((refOut_congr h0 h1 h2 h3 h4).trans (refOut_outv m hpre c))

end Cert.Proof.Spmm
-- ==== Proof.lean ====
/-
  The certificate: the run of the kernel at each reading (`Proof/Frames.lean`), the reference's (`Proof/Reference.lean`),
  and that over the extended reals both leave the same result (`Proof/Algebraic.lean`).
-/
module

public import proofs.«01_k».proof.Defs
public import proofs.«01_k».proof.Proof.Gen.Kernel
public import proofs.«01_k».proof.Proof.Gen.Kernel.Skeleton
public import proofs.«01_k».proof.Proof.Gen.KernelIdeal
public import proofs.«01_k».proof.Proof.Gen.KernelIdeal.Skeleton
public import proofs.«01_k».proof.Proof.Gen.ReferenceIdeal
public import proofs.«01_k».proof.Proof.Gen.ReferenceIdeal.Run
public import proofs.«01_k».proof.Proof.Gen.Pre_in_range
public import proofs.«01_k».proof.Proof.Frames
public import proofs.«01_k».proof.Proof.Reference
public import proofs.«01_k».proof.Proof.Algebraic
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Pre_in_range.Gen.facts,
  Spmm.frame_kernel, Spmm.frame_kernelIdeal, Spmm.frame_reference, Spmm.frame_reference_pre, trivial, Spmm.alg⟩

end Cert.Proof

end
